-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_valid [hPre_all_valid : Cert.Pre_all_valid.Facts] (m : (ℓ : Loc Cert.KernelIdeal.nD Cert.KernelIdeal.τ Cert.KernelIdeal.sig) → Buf (Elt Ideal) ℓ) : Prop :=
  ∀ c : Dev Cert.KernelIdeal.nD,
    (Cert.Pre_all_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_valid [hPre_all_valid : Cert.Pre_all_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_all_valid [hKernelIdeal : Cert.KernelIdeal.Facts] [hPre_all_valid : Cert.Pre_all_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_all_valid [hReferenceIdeal : Cert.ReferenceIdeal.Facts] [hPre_all_valid : Cert.Pre_all_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_all_valid [hKernelIdeal : Cert.KernelIdeal.Facts] [hReferenceIdeal : Cert.ReferenceIdeal.Facts] [hPre_all_valid : Cert.Pre_all_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_all_valid : Cert.Pre_all_valid.Facts),
    quiescent_Kernel (hKernel := hKernel)
    ∧ quiescent_KernelIdeal (hKernelIdeal := hKernelIdeal)
    ∧ quiescent_KernelIdeal_pre_all_valid (hKernelIdeal := hKernelIdeal) (hPre_all_valid := hPre_all_valid)
    ∧ quiescent_ReferenceIdeal (hReferenceIdeal := hReferenceIdeal)
    ∧ quiescent_ReferenceIdeal_pre_all_valid (hReferenceIdeal := hReferenceIdeal) (hPre_all_valid := hPre_all_valid)
    ∧ preserves_Kernel_KernelIdeal
    ∧ algebraic_KernelIdeal_ReferenceIdeal_pre_all_valid (hKernelIdeal := hKernelIdeal) (hReferenceIdeal := hReferenceIdeal) (hPre_all_valid := hPre_all_valid)
-- ==== Pre_all_valid.lean ====
abbrev S128x4x1024 : Shape := ⟨3, ![128, 4, 1024]⟩
abbrev S128x1024 : Shape := ⟨2, ![128, 1024]⟩
abbrev S_ : Shape := ⟨0, ![]⟩

class Facts : Prop where
  reducesTo_S128x1024_S_d0_1 : S128x1024.ReducesTo [0, 1] S_
  h_S_ : 0 < S_.numel

variable [Facts]

def fn {F : FTy → Type} [FloatOps F] (main_arg0 : FVec F S128x4x1024 .f32) (main_arg1 : IVec S128x1024 1) : IVec S_ 1 :=
  let main_c : IVec S_ 1 := constantI S_ 1 1#1
  let main_v0 : IVec S_ 1 := (fun x v => Host.reduce IntOp.andi x v reducesTo_S128x1024_S_d0_1 h_S_) main_arg1 main_c
  main_v0
-- ==== Kernel.lean ====
abbrev S128x4x1024 : Shape := ⟨3, ![128, 4, 1024]⟩
abbrev S128x1024 : Shape := ⟨2, ![128, 1024]⟩
abbrev S17x24x128 : Shape := ⟨3, ![17, 24, 128]⟩
abbrev S24x128 : Shape := ⟨2, ![24, 128]⟩
abbrev S1024x4x128 : Shape := ⟨3, ![1024, 4, 128]⟩
abbrev S1024x24x128 : Shape := ⟨3, ![1024, 24, 128]⟩
abbrev S1024x128 : Shape := ⟨2, ![1024, 128]⟩
abbrev S1024x1x128 : Shape := ⟨3, ![1024, 1, 128]⟩
abbrev S1024x10x128 : Shape := ⟨3, ![1024, 10, 128]⟩
abbrev S1024x5x128 : Shape := ⟨3, ![1024, 5, 128]⟩
abbrev S1024x8x128 : Shape := ⟨3, ![1024, 8, 128]⟩
abbrev S1x24x128 : Shape := ⟨3, ![1, 24, 128]⟩
abbrev S1x128 : Shape := ⟨2, ![1, 128]⟩
abbrev S128 : Shape := ⟨1, ![128]⟩

abbrev nBuf : Space → Nat
  | .hbm => 6
  | .vmem => 7
  | .smem => 0
  | _ => 0

abbrev bufTy : (tb : Table) → Fin (tcTables nBuf tb) → BufTy
  | .hbm, ⟨0, _⟩ => ⟨S128x4x1024, .f32⟩
  | .hbm, ⟨1, _⟩ => ⟨S128x1024, .i1⟩
  | .hbm, ⟨2, _⟩ => ⟨S17x24x128, .f32⟩
  | .hbm, ⟨3, _⟩ => ⟨S24x128, .f32⟩
  | .hbm, ⟨4, _⟩ => ⟨S1024x4x128, .f32⟩
  | .hbm, ⟨5, _⟩ => ⟨S128x1024, .i32⟩
  | .local _ .vmem, ⟨0, _⟩ => ⟨S1024x4x128, .f32⟩
  | .local _ .vmem, ⟨1, _⟩ => ⟨S17x24x128, .f32⟩
  | .local _ .vmem, ⟨2, _⟩ => ⟨S24x128, .f32⟩
  | .local _ .vmem, ⟨3, _⟩ => ⟨S128x1024, .i32⟩
  | .local _ .vmem, ⟨4, _⟩ => ⟨S1024x24x128, .f32⟩
  | .local _ .vmem, ⟨5, _⟩ => ⟨S1024x24x128, .i32⟩
  | .local _ .vmem, ⟨6, _⟩ => ⟨S1024x128, .i32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_cst_0 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c1023_i32 : BitVec 32 := 1023#32
  let v30 : BitVec 32 := Scalar.addi c1_i32 c1023_i32
  let c1_i32_22 : BitVec 32 := 1#32
  ⟨c1_i32, v30, c1_i32_22⟩
def k0_off1 (k0_t1 : Fin k0_t1_loop.trips) : Fin 3 → Nat :=
  let c1_i32 : BitVec 32 := 1#32
  let c1_i32_22 : BitVec 32 := 1#32
  let arg7 : BitVec 32 := Scf.iv c1_i32 c1_i32_22 k0_t1
  let v170 : Index := Scalar.indexCast arg7
  let c0_57 : Index := 0#32
  let c0_58 : Index := 0#32
  ![v170.toNat, 0, 0]
def k0_off2 (k0_t1 : Fin k0_t1_loop.trips) : Fin 3 → Nat :=
  let c1_i32 : BitVec 32 := 1#32
  let c1_i32_22 : BitVec 32 := 1#32
  let arg7 : BitVec 32 := Scf.iv c1_i32 c1_i32_22 k0_t1
  let c1_i32_117 : BitVec 32 := 1#32
  let v357 : BitVec 32 := Scalar.subi arg7 c1_i32_117
  let v358 : Index := Scalar.indexCast v357
  let c0_118 : Index := 0#32
  let c0_119 : Index := 0#32
  ![v358.toNat, 0, 0]
@[reducible] def k0_t2_loop : Scf.Loop 32 :=
  let c0_i32_42 : BitVec 32 := 0#32
  let c1023_i32_43 : BitVec 32 := 1023#32
  let v151 : BitVec 32 := Scalar.addi c0_i32_42 c1023_i32_43
  let c1_i32_44 : BitVec 32 := 1#32
  ⟨c0_i32_42, v151, c1_i32_44⟩
def k0_off3 (k0_t2 : Fin k0_t2_loop.trips) : Fin 3 → Nat :=
  let c1022_i32 : BitVec 32 := 1022#32
  let c0_i32_42 : BitVec 32 := 0#32
  let c1_i32_44 : BitVec 32 := 1#32
  let arg7 : BitVec 32 := Scf.iv c0_i32_42 c1_i32_44 k0_t2
  let v170 : BitVec 32 := Scalar.subi c1022_i32 arg7
  let v171 : Index := Scalar.indexCast v170
  let c0_57 : Index := 0#32
  let c0_58 : Index := 0#32
  ![v171.toNat, 0, 0]
def k0_off4 (k0_t2 : Fin k0_t2_loop.trips) : Fin 2 → Nat :=
  let c1022_i32 : BitVec 32 := 1022#32
  let c0_i32_42 : BitVec 32 := 0#32
  let c1_i32_44 : BitVec 32 := 1#32
  let arg7 : BitVec 32 := Scf.iv c0_i32_42 c1_i32_44 k0_t2
  let v170 : BitVec 32 := Scalar.subi c1022_i32 arg7
  let v180 : Index := Scalar.indexCast v170
  let c0_61 : Index := 0#32
  ![v180.toNat, 0]
abbrev stage0_0 : Fin 1 → Memref sig .tc .vmem S1024x4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S17x24x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S128x4x1024 : Shape := ⟨3, ![128, 4, 1024]⟩
abbrev S128x1024 : Shape := ⟨2, ![128, 1024]⟩
abbrev S17 : Shape := ⟨1, ![17]⟩
abbrev S17x17 : Shape := ⟨2, ![17, 17]⟩
abbrev S1024x128 : Shape := ⟨2, ![1024, 128]⟩
abbrev S1024x128x4 : Shape := ⟨3, ![1024, 128, 4]⟩
abbrev S_ : Shape := ⟨0, ![]⟩
abbrev S17x1 : Shape := ⟨2, ![17, 1]⟩
abbrev S1024x128x17 : Shape := ⟨3, ![1024, 128, 17]⟩
abbrev S1x128x17 : Shape := ⟨3, ![1, 128, 17]⟩
abbrev S128x17 : Shape := ⟨2, ![128, 17]⟩
abbrev S1x17 : Shape := ⟨2, ![1, 17]⟩
abbrev S1023x128x17 : Shape := ⟨3, ![1023, 128, 17]⟩
abbrev S1023x128 : Shape := ⟨2, ![1023, 128]⟩
abbrev S1x128 : Shape := ⟨2, ![1, 128]⟩
abbrev S128 : Shape := ⟨1, ![128]⟩
abbrev S1x17x17 : Shape := ⟨3, ![1, 17, 17]⟩
abbrev S128x17x1 : Shape := ⟨3, ![128, 17, 1]⟩
abbrev S128x17x17 : Shape := ⟨3, ![128, 17, 17]⟩
abbrev S128x1x17 : Shape := ⟨3, ![128, 1, 17]⟩
abbrev S128x1 : Shape := ⟨2, ![128, 1]⟩
abbrev S1024 : Shape := ⟨1, ![1024]⟩
abbrev S1024x1 : Shape := ⟨2, ![1024, 1]⟩
abbrev S1024x128x1 : Shape := ⟨3, ![1024, 128, 1]⟩
abbrev S1x128x1 : Shape := ⟨3, ![1, 128, 1]⟩
abbrev S128x2 : Shape := ⟨2, ![128, 2]⟩
abbrev S128x1024x1 : Shape := ⟨3, ![128, 1024, 1]⟩

abbrev nBuf : Space → Nat
  | .hbm => 153
  | .vmem => 0
  | .smem => 0
  | _ => 0

abbrev hbmTy0_0 (i : Nat) : BufTy := match i % 128 with
  | 0 => ⟨S128x4x1024, .f32⟩
  | 1 => ⟨S128x1024, .i1⟩
  | 2 => ⟨S17, .i32⟩
  | 3 => ⟨S17x17, .f32⟩
  | 4 => ⟨S17, .f32⟩
  | 5 => ⟨S17, .f32⟩
  | 6 => ⟨S17, .i32⟩
  | 7 => ⟨S17, .i1⟩
  | 8 => ⟨S1024x128, .i1⟩
  | 9 => ⟨S1024x128x4, .f32⟩
  | 10 => ⟨S_, .i32⟩
  | 11 => ⟨S17, .i32⟩
  | 12 => ⟨S17, .i32⟩
  | 13 => ⟨S17, .i32⟩
  | 14 => ⟨S17x1, .i32⟩
  | 15 => ⟨S1024x128x17, .f32⟩
  | 16 => ⟨S1x128x17, .f32⟩
  | 17 => ⟨S128x17, .f32⟩
  | 18 => ⟨S1x17, .f32⟩
  | 19 => ⟨S128x17, .f32⟩
  | 20 => ⟨S128x17, .f32⟩
  | 21 => ⟨S1023x128x17, .f32⟩
  | 22 => ⟨S1023x128, .i1⟩
  | 23 => ⟨S_, .i32⟩
  | 24 => ⟨S1023x128x17, .i32⟩
  | 25 => ⟨S_, .i32⟩
  | 26 => ⟨S1023x128x17, .f32⟩
  | 27 => ⟨S1023x128, .i1⟩
  | 28 => ⟨S17x17, .f32⟩
  | 29 => ⟨S_, .i32⟩
  | 30 => ⟨S128x17, .f32⟩
  | 31 => ⟨S1023x128x17, .i32⟩
  | 32 => ⟨S_, .i32⟩
  | 33 => ⟨S_, .i1⟩
  | 34 => ⟨S_, .i32⟩
  | 35 => ⟨S_, .i32⟩
  | 36 => ⟨S1x128x17, .f32⟩
  | 37 => ⟨S128x17, .f32⟩
  | 38 => ⟨S_, .i32⟩
  | 39 => ⟨S1x128, .i1⟩
  | 40 => ⟨S128, .i1⟩
  | 41 => ⟨S1x17x17, .f32⟩
  | 42 => ⟨S128x17x1, .f32⟩
  | 43 => ⟨S128x17x17, .f32⟩
  | 44 => ⟨S128x17x17, .f32⟩
  | 45 => ⟨S128x17x17, .f32⟩
  | 46 => ⟨S128x1x17, .f32⟩
  | 47 => ⟨S128x17x17, .f32⟩
  | 48 => ⟨S128x17x17, .f32⟩
  | 49 => ⟨S128x17x17, .i32⟩
  | 50 => ⟨S_, .f32⟩
  | 51 => ⟨S_, .i32⟩
  | 52 => ⟨S128x17, .f32⟩
  | 53 => ⟨S128x17, .i32⟩
  | 54 => ⟨S_, .f32⟩
  | 55 => ⟨S128x17, .f32⟩
  | 56 => ⟨S128x1, .i1⟩
  | 57 => ⟨S128x17, .i1⟩
  | 58 => ⟨S128x17, .f32⟩
  | 59 => ⟨S1x128x17, .i32⟩
  | 60 => ⟨S_, .i32⟩
  | 61 => ⟨S_, .i32⟩
  | 62 => ⟨S1023x128x17, .i32⟩
  | 63 => ⟨S_, .i32⟩
  | 64 => ⟨S_, .i32⟩
  | 65 => ⟨S_, .i32⟩
  | 66 => ⟨S1x128x17, .i32⟩
  | 67 => ⟨S1024x128x17, .i32⟩
  | 68 => ⟨S1x17, .f32⟩
  | 69 => ⟨S128x17, .f32⟩
  | 70 => ⟨S128x17, .f32⟩
  | 71 => ⟨S128x17, .i32⟩
  | 72 => ⟨S_, .f32⟩
  | 73 => ⟨S_, .i32⟩
  | 74 => ⟨S128, .f32⟩
  | 75 => ⟨S128, .i32⟩
  | 76 => ⟨S1024x128, .i32⟩
  | 77 => ⟨S_, .i32⟩
  | 78 => ⟨S128, .i32⟩
  | 79 => ⟨S_, .i32⟩
  | 80 => ⟨S128, .i32⟩
  | 81 => ⟨S128, .i1⟩
  | 82 => ⟨S_, .i32⟩
  | 83 => ⟨S_, .i32⟩
  | 84 => ⟨S128, .i32⟩
  | 85 => ⟨S128, .i32⟩
  | 86 => ⟨S_, .i32⟩
  | 87 => ⟨S128, .i32⟩
  | 88 => ⟨S128, .i32⟩
  | 89 => ⟨S1024, .i32⟩
  | 90 => ⟨S1024x1, .i32⟩
  | 91 => ⟨S1x128, .i32⟩
  | 92 => ⟨S1024x128, .i32⟩
  | 93 => ⟨S1024x128, .i32⟩
  | 94 => ⟨S1024x128, .i1⟩
  | 95 => ⟨S1024x128x1, .i1⟩
  | 96 => ⟨S1x128x1, .i32⟩
  | 97 => ⟨S1024x128x17, .i1⟩
  | 98 => ⟨S1024x128x17, .i32⟩
  | 99 => ⟨S1024x128x17, .i32⟩
  | 100 => ⟨S_, .i32⟩
  | 101 => ⟨S128, .i32⟩
  | 102 => ⟨S_, .i32⟩
  | 103 => ⟨S1024x128, .i32⟩
  | 104 => ⟨S_, .i32⟩
  | 105 => ⟨S1024x128x17, .i32⟩
  | 106 => ⟨S_, .i32⟩
  | 107 => ⟨S128, .i32⟩
  | 108 => ⟨S1024x128, .i32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S1x128x17, .i32⟩
  | 118 => ⟨S128x17, .i32⟩
  | 119 => ⟨S128, .i32⟩
  | 120 => ⟨S_, .i32⟩
  | 121 => ⟨S128, .i32⟩
  | 122 => ⟨S128, .i1⟩
  | 123 => ⟨S_, .i32⟩
  | 124 => ⟨S128, .i32⟩
  | 125 => ⟨S128, .i32⟩
  | 126 => ⟨S128, .i32⟩
  | 127 => ⟨S_, .i32⟩
  | _ => ⟨S128x4x1024, .f32⟩

abbrev hbmTy0_1 (i : Nat) : BufTy := match i % 128 with
  | 0 => ⟨S128, .i32⟩
  | 1 => ⟨S128, .i1⟩
  | 2 => ⟨S_, .i32⟩
  | 3 => ⟨S128, .i32⟩
  | 4 => ⟨S128, .i32⟩
  | 5 => ⟨S128, .i32⟩
  | 6 => ⟨S128x1, .i32⟩
  | 7 => ⟨S128x1, .i32⟩
  | 8 => ⟨S128x2, .i32⟩
  | 9 => ⟨S128, .i32⟩
  | 10 => ⟨S1x128, .i32⟩
  | 11 => ⟨S_, .i32⟩
  | 12 => ⟨S1024x128, .i32⟩
  | 13 => ⟨S_, .i32⟩
  | 14 => ⟨S_, .i32⟩
  | 15 => ⟨S128x1024, .i32⟩
  | 16 => ⟨S_, .i32⟩
  | 17 => ⟨S128x1024, .i32⟩
  | 18 => ⟨S128x1024, .i1⟩
  | 19 => ⟨S_, .i32⟩
  | 20 => ⟨S128x1024, .i32⟩
  | 21 => ⟨S128x1024, .i32⟩
  | 22 => ⟨S128x1024, .i32⟩
  | 23 => ⟨S128x1024x1, .i32⟩
  | 24 => ⟨S128x1024, .i32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_c_2 : Ref sig .tc := ⟨.hbm, 6, rfl⟩
abbrev main_c_3 : Ref sig .tc := ⟨.hbm, 7, rfl⟩
abbrev main_v0 : Ref sig .tc := ⟨.hbm, 8, rfl⟩
abbrev main_v1 : Ref sig .tc := ⟨.hbm, 9, rfl⟩
abbrev main_c_4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_5 : Ref sig .tc := ⟨.hbm, 23, rfl⟩
abbrev main_v14 : Ref sig .tc := ⟨.hbm, 24, rfl⟩
abbrev main_c_6 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev main_v15_5 : Ref sig .tc := ⟨.hbm, 31, rfl⟩
abbrev main_while0c_c_22 : Ref sig .tc := ⟨.hbm, 32, rfl⟩
abbrev main_while0c_v49 : Ref sig .tc := ⟨.hbm, 33, rfl⟩
abbrev main_while0b_call0_c : Ref sig .tc := ⟨.hbm, 34, rfl⟩
abbrev main_while0b_call0_c_0 : Ref sig .tc := ⟨.hbm, 35, rfl⟩
abbrev main_while0b_call0_v0 : Ref sig .tc := ⟨.hbm, 36, rfl⟩
abbrev main_while0b_v49 : Ref sig .tc := ⟨.hbm, 37, rfl⟩
abbrev main_while0b_call1_c : Ref sig .tc := ⟨.hbm, 38, rfl⟩
abbrev main_while0b_call1_v0 : Ref sig .tc := ⟨.hbm, 39, rfl⟩
abbrev main_while0b_v50 : Ref sig .tc := ⟨.hbm, 40, rfl⟩
abbrev main_while0b_v51 : Ref sig .tc := ⟨.hbm, 41, rfl⟩
abbrev main_while0b_v52 : Ref sig .tc := ⟨.hbm, 42, rfl⟩
abbrev main_while0b_v53 : Ref sig .tc := ⟨.hbm, 43, rfl⟩
abbrev main_while0b_v54 : Ref sig .tc := ⟨.hbm, 44, rfl⟩
abbrev main_while0b_v55 : Ref sig .tc := ⟨.hbm, 45, rfl⟩
abbrev main_while0b_v56 : Ref sig .tc := ⟨.hbm, 46, rfl⟩
abbrev main_while0b_v57 : Ref sig .tc := ⟨.hbm, 47, rfl⟩
abbrev main_while0b_v58 : Ref sig .tc := ⟨.hbm, 48, rfl⟩
abbrev main_while0b_call2_v0 : Ref sig .tc := ⟨.hbm, 49, rfl⟩
abbrev main_while0b_call2_cst : Ref sig .tc := ⟨.hbm, 50, rfl⟩
abbrev main_while0b_call2_c : Ref sig .tc := ⟨.hbm, 51, rfl⟩
abbrev main_while0b_call2_v1_0 : Ref sig .tc := ⟨.hbm, 52, rfl⟩
abbrev main_while0b_v59 : Ref sig .tc := ⟨.hbm, 53, rfl⟩
abbrev main_while0b_cst_22 : Ref sig .tc := ⟨.hbm, 54, rfl⟩
abbrev main_while0b_v60 : Ref sig .tc := ⟨.hbm, 55, rfl⟩
abbrev main_while0b_v61 : Ref sig .tc := ⟨.hbm, 56, rfl⟩
abbrev main_while0b_call3_v0 : Ref sig .tc := ⟨.hbm, 57, rfl⟩
abbrev main_while0b_v62 : Ref sig .tc := ⟨.hbm, 58, rfl⟩
abbrev main_while0b_call4_v0 : Ref sig .tc := ⟨.hbm, 59, rfl⟩
abbrev main_while0b_call4_c : Ref sig .tc := ⟨.hbm, 60, rfl⟩
abbrev main_while0b_call4_c_0 : Ref sig .tc := ⟨.hbm, 61, rfl⟩
abbrev main_while0b_v63 : Ref sig .tc := ⟨.hbm, 62, rfl⟩
abbrev main_while0b_c_23 : Ref sig .tc := ⟨.hbm, 63, rfl⟩
abbrev main_while0b_v64 : Ref sig .tc := ⟨.hbm, 64, rfl⟩
abbrev main_c_7 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_call5_v0 : Ref sig .tc := ⟨.hbm, 71, rfl⟩
abbrev main_call5_cst : Ref sig .tc := ⟨.hbm, 72, rfl⟩
abbrev main_call5_c : Ref sig .tc := ⟨.hbm, 73, rfl⟩
abbrev main_call5_v1_0 : Ref sig .tc := ⟨.hbm, 74, rfl⟩
abbrev main_v21 : Ref sig .tc := ⟨.hbm, 75, rfl⟩
abbrev main_v22 : Ref sig .tc := ⟨.hbm, 76, rfl⟩
abbrev main_c_8 : Ref sig .tc := ⟨.hbm, 77, rfl⟩
abbrev main_v23 : Ref sig .tc := ⟨.hbm, 78, rfl⟩
abbrev main_c_9 : Ref sig .tc := ⟨.hbm, 79, rfl⟩
abbrev main_v24 : Ref sig .tc := ⟨.hbm, 80, rfl⟩
abbrev main_v25 : Ref sig .tc := ⟨.hbm, 81, rfl⟩
abbrev main_c_10 : Ref sig .tc := ⟨.hbm, 82, rfl⟩
abbrev main_call6_v0 : Ref sig .tc := ⟨.hbm, 83, rfl⟩
abbrev main_call6_v1 : Ref sig .tc := ⟨.hbm, 84, rfl⟩
abbrev main_v26 : Ref sig .tc := ⟨.hbm, 85, rfl⟩
abbrev main_c_11 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_call7_v0 : Ref sig .tc := ⟨.hbm, 97, rfl⟩
abbrev main_call7_v1 : Ref sig .tc := ⟨.hbm, 98, rfl⟩
abbrev main_v37 : Ref sig .tc := ⟨.hbm, 99, rfl⟩
abbrev main_c_12 : Ref sig .tc := ⟨.hbm, 100, rfl⟩
abbrev main_v38 : Ref sig .tc := ⟨.hbm, 101, rfl⟩
abbrev main_c_13 : Ref sig .tc := ⟨.hbm, 102, rfl⟩
abbrev main_v39 : Ref sig .tc := ⟨.hbm, 103, rfl⟩
abbrev main_c_14 : Ref sig .tc := ⟨.hbm, 104, rfl⟩
abbrev main_v40_0 : Ref sig .tc := ⟨.hbm, 105, rfl⟩
abbrev main_v40_1 : Ref sig .tc := ⟨.hbm, 106, rfl⟩
abbrev main_v40_2 : Ref sig .tc := ⟨.hbm, 107, rfl⟩
abbrev main_v40_3 : Ref sig .tc := ⟨.hbm, 108, rfl⟩
abbrev main_while1c_c_20 : Ref sig .tc := ⟨.hbm, 109, rfl⟩
abbrev main_while1c_v49 : Ref sig .tc := ⟨.hbm, 110, rfl⟩
abbrev main_while1b_c_20 : Ref sig .tc := ⟨.hbm, 111, rfl⟩
abbrev main_while1b_v49 : Ref sig .tc := ⟨.hbm, 112, rfl⟩
abbrev main_while1b_c_21 : Ref sig .tc := ⟨.hbm, 113, rfl⟩
abbrev main_while1b_v50 : Ref sig .tc := ⟨.hbm, 114, rfl⟩
abbrev main_while1b_call8_c : Ref sig .tc := ⟨.hbm, 115, rfl⟩
abbrev main_while1b_call8_c_0 : Ref sig .tc := ⟨.hbm, 116, rfl⟩
abbrev main_while1b_call8_v0 : Ref sig .tc := ⟨.hbm, 117, rfl⟩
abbrev main_while1b_v51 : Ref sig .tc := ⟨.hbm, 118, rfl⟩
abbrev main_while1b_v52 : Ref sig .tc := ⟨.hbm, 119, rfl⟩
abbrev main_while1b_c_22 : Ref sig .tc := ⟨.hbm, 120, rfl⟩
abbrev main_while1b_v53 : Ref sig .tc := ⟨.hbm, 121, rfl⟩
abbrev main_while1b_v54 : Ref sig .tc := ⟨.hbm, 122, rfl⟩
abbrev main_while1b_c_23 : Ref sig .tc := ⟨.hbm, 123, rfl⟩
abbrev main_while1b_v55 : Ref sig .tc := ⟨.hbm, 124, rfl⟩
abbrev main_while1b_v56 : Ref sig .tc := ⟨.hbm, 125, rfl⟩
abbrev main_while1b_v57 : Ref sig .tc := ⟨.hbm, 126, rfl⟩
abbrev main_while1b_c_24 : Ref sig .tc := ⟨.hbm, 127, rfl⟩
abbrev main_while1b_v58 : Ref sig .tc := ⟨.hbm, 128, rfl⟩
abbrev main_while1b_v59 : Ref sig .tc := ⟨.hbm, 129, rfl⟩
abbrev main_while1b_c_25 : Ref sig .tc := ⟨.hbm, 130, rfl⟩
abbrev main_while1b_v60 : Ref sig .tc := ⟨.hbm, 131, rfl⟩
abbrev main_while1b_v61 : Ref sig .tc := ⟨.hbm, 132, rfl⟩
abbrev main_while1b_v62 : Ref sig .tc := ⟨.hbm, 133, rfl⟩
abbrev main_while1b_v63 : Ref sig .tc := ⟨.hbm, 134, rfl⟩
abbrev main_while1b_v64 : Ref sig .tc := ⟨.hbm, 135, rfl⟩
abbrev main_while1b_v65 : Ref sig .tc := ⟨.hbm, 136, rfl⟩
abbrev main_while1b_v66 : Ref sig .tc := ⟨.hbm, 137, rfl⟩
abbrev main_while1b_call9_v0 : Ref sig .tc := ⟨.hbm, 138, rfl⟩
abbrev main_while1b_call9_c : Ref sig .tc := ⟨.hbm, 139, rfl⟩
abbrev main_while1b_v67 : Ref sig .tc := ⟨.hbm, 140, rfl⟩
abbrev main_while1b_c_26 : Ref sig .tc := ⟨.hbm, 141, rfl⟩
abbrev main_while1b_v68 : Ref sig .tc := ⟨.hbm, 142, rfl⟩
abbrev main_v41 : Ref sig .tc := ⟨.hbm, 143, rfl⟩
abbrev main_c_15 : Ref sig .tc := ⟨.hbm, 144, rfl⟩
abbrev main_v42 : Ref sig .tc := ⟨.hbm, 145, rfl⟩
abbrev main_v43 : Ref sig .tc := ⟨.hbm, 146, rfl⟩
abbrev main_c_16 : Ref sig .tc := ⟨.hbm, 147, rfl⟩
abbrev main_v44 : Ref sig .tc := ⟨.hbm, 148, rfl⟩
abbrev main_v45 : Ref sig .tc := ⟨.hbm, 149, rfl⟩
abbrev main_v46 : Ref sig .tc := ⟨.hbm, 150, rfl⟩
abbrev main_v47 : Ref sig .tc := ⟨.hbm, 151, rfl⟩
abbrev main_v48 : Ref sig .tc := ⟨.hbm, 152, rfl⟩

abbrev nD : Nat := 1
abbrev τ : Topo := Topo.v7x

variable {F : FTy → Type} [FloatOps F]

abbrev main_while0_count : Scf.Loop 32 := ⟨0#32, 1023#32, 1#32⟩

abbrev main_while1_count : Scf.Loop 32 := ⟨0#32, 1024#32, 1#32⟩
-- ==== Proof.KI.Vec.lean ====
/-
  What the kernel's vectors hold, as plain functions of the three blocks it reads: the emissions spread over the states, the forward
  recursion's scores and back-pointers, the best last state, the path read backwards, and the labels written out. Everything here is
  stated for any floating-point interpretation; nothing here mentions memory.
-/
module

public import proofs.«01_k».proof.Proof.Gen.KernelIdeal.Skeleton
public import Idealize.ShloMosaic.Lib.PointwiseCore

@[expose] public section

set_option maxRecDepth 16384

noncomputable section

namespace Cert.KernelIdeal.Model

open Cert.KernelIdeal Cert.KernelIdeal.Gen
open Idealize.ShloMosaic Idealize.ShloMosaic.Pointwise

variable {F : FTy → Type} [FloatOps F]

/-- The channel of the emissions that state (row) `r` listens to: ten states, five states, one state, and the rest. -/
def chan (r : ℕ) : Fin 4 := if r < 10 then 0 else if r < 15 then 1 else if r < 16 then 2 else 3

/-- The emissions spread over the states: row `r` of time `t` is its channel's row. -/
def spread {α : Type} (x : S1024x4x128.Idx → α) : S1024x24x128.Idx → α :=
  fun y => x (ix3 (y 0) (chan (y 1).val) (y 2))

/-- Matrix `t` of a stack of matrices, as a stack of one (the last one, past the end). -/
def rowOf {α : Type} (x : S1024x24x128.Idx → α) (t : ℕ) : S1x24x128.Idx → α :=
  fun y => x (ix3 ⟨min t 1023, by omega⟩ (y 1) (y 2))

/-- Matrix `i` of the transition table, as a stack of one: column `i` of the transitions, laid out over the rows. -/
def colOf {α : Type} (x : S17x24x128.Idx → α) (i : Fin 17) : S1x24x128.Idx → α :=
  fun y => x (ix3 i (y 1) (y 2))

/-- Row `i` can be cut out of a matrix of 24 rows. -/
theorem slices_row : ∀ i : Fin 17, S24x128.Slices ![i.val, 0] S1x128 := by decide

/-- The scores of reaching every state from state `i`: state `i`'s score, plus the transition, plus the emission. -/
def cand (col em : S1x24x128.Idx → F .f32) (acc : FVec F S24x128 .f32) (i : Fin 17) : FVec F S24x128 .f32 :=
  addf (addf (broadcastTo S24x128 (shapeCast S1x128 (extractStridedSlice S1x128 ![i.val, 0] acc (slices_row i)) shapeCasts_S1x128_S1x128)
      broadcasts_S1x128_S24x128) (shapeCast S24x128 col shapeCasts_S1x24x128_S24x128))
    (shapeCast S24x128 em shapeCasts_S1x24x128_S24x128)

/-- A score with the state it comes from, for every state and sequence. -/
abbrev Node (F : FTy → Type) (s : Shape) := FVec F s .f32 × IVec s 32

/-- The better of two nodes, the left one when they tie. -/
def join {s : Shape} (l r : Node F s) : Node F s :=
  (select (cmpf .ogt r.1 l.1) r.1 l.1, select (cmpf .ogt r.1 l.1) r.2 l.2)

/-- The best of seventeen nodes, joined two by two. -/
def best {s : Shape} (n : Fin 17 → Node F s) : Node F s :=
  join
    (join (join (join (join (n 0) (n 1)) (join (n 2) (n 3))) (join (join (n 4) (n 5)) (join (n 6) (n 7))))
      (join (join (join (n 8) (n 9)) (join (n 10) (n 11))) (join (join (n 12) (n 13)) (join (n 14) (n 15)))))
    (n 16)

/-- One forward step: the best score of every state, with the state it comes from. -/
def step (cols : Fin 17 → S1x24x128.Idx → F .f32) (em : S1x24x128.Idx → F .f32) (acc : FVec F S24x128 .f32) : Node F S24x128 :=
  best fun i => (cand (cols i) em acc i, broadcast S24x128 (BitVec.ofNat 32 i.val))

/-- The best node of the last scores plus the end scores, one state after another. -/
def lastNode (acc : FVec F S24x128 .f32) (i : Fin 17) (e : F .f32) : FVec F S1x128 .f32 :=
  addf (extractStridedSlice S1x128 ![i.val, 0] acc (slices_row i)) (broadcast S1x128 e)

/-- The end score of state `i`: 0 for the states a path may end in, −100 for the others. -/
def endBits (i : ℕ) : BitVec 32 :=
  if i = 4 ∨ i = 9 ∨ i = 14 ∨ i = 15 ∨ i = 16 then 0x00000000#32 else 0xC2C80000#32

/-- The better of a node and the node of ending in state `i`. -/
def addLast (acc : FVec F S24x128 .f32) (i : Fin 17) (n : Node F S1x128) : Node F S1x128 :=
  join n (lastNode acc i (Scalar.ofBits .f32 (endBits i.val)), broadcast S1x128 (BitVec.ofNat 32 i.val))

/-- The best of the first `k + 1` last nodes, joined one after another. -/
def lastBest (acc : FVec F S24x128 .f32) : (k : ℕ) → k < 17 → Node F S1x128
  | 0, h => (lastNode acc ⟨0, h⟩ (Scalar.ofBits .f32 (endBits 0)), broadcast S1x128 0#32)
  | k + 1, h => addLast acc ⟨k + 1, h⟩ (lastBest acc k (by omega))

/-- The kernel's first six end nodes, joined. -/
theorem last_first (v : FVec F S24x128 .f32) :
    k0_pay81 v = (lastBest v 5 (by omega)).1 ∧ k0_pay82 v = (lastBest v 5 (by omega)).2 := ⟨rfl, rfl⟩

/-- The kernel's next six end nodes, joined onto any node. -/
theorem last_middle (v : FVec F S24x128 .f32) (n : Node F S1x128) :
    k0_pay100 v n.1 = (addLast v 11 (addLast v 10 (addLast v 9 (addLast v 8 (addLast v 7 (addLast v 6 n)))))).1
      ∧ k0_pay101 v n.1 n.2 = (addLast v 11 (addLast v 10 (addLast v 9 (addLast v 8 (addLast v 7 (addLast v 6 n)))))).2 :=
  ⟨rfl, rfl⟩

/-- The kernel's last five end nodes, joined onto any node. -/
theorem last_end (v : FVec F S24x128 .f32) (n : Node F S1x128) :
    k0_pay105 v n.2 (cmpf .ogt (k0_pay102 v) n.1) (select (cmpf .ogt (k0_pay102 v) n.1) (k0_pay102 v) n.1)
      = (addLast v 16 (addLast v 15 (addLast v 14 (addLast v 13 (addLast v 12 n))))).2 := rfl

/-- The kernel's best last state is the best of the seventeen end nodes joined one after another. -/
theorem last_eq (v : FVec F S24x128 .f32) :
    k0_pay105 v (k0_pay101 v (k0_pay81 v) (k0_pay82 v)) (k0_pay103 v (k0_pay81 v)) (k0_pay104 v (k0_pay81 v))
      = (lastBest v 16 (by omega)).2 := by
  rw [(last_first v).1, (last_first v).2, (last_middle v _).2, k0_pay104, k0_pay103, (last_middle v _).1, last_end]
  rfl

section Run

variable (x0 : S1024x4x128.Idx → F .f32) (x1 : S17x24x128.Idx → F .f32) (x2 : S24x128.Idx → F .f32)

/-- The scores at time `t`. -/
def score : ℕ → FVec F S24x128 .f32
  | 0 => addf x2 (shapeCast S24x128 (rowOf (spread x0) 0) shapeCasts_S1x24x128_S24x128)
  | t + 1 => (step (colOf x1) (rowOf (spread x0) (t + 1)) (score t)).1

/-- The back-pointers from time `t + 1` to time `t`. -/
def back (t : ℕ) : IVec S24x128 32 := (step (colOf x1) (rowOf (spread x0) (t + 1)) (score x0 x1 x2 t)).2

/-- The best last state of every sequence. -/
def lastTag : IVec S1x128 32 := (lastBest (score x0 x1 x2 1023) 16 (by omega)).2

/-- The state `k` steps before the last one. -/
def tagBack : ℕ → IVec S1x128 32
  | 0 => lastTag x0 x1 x2
  | k + 1 => k0_pay107 (F := F) (tagBack k) (shapeCast S1x24x128 (back x0 x1 x2 (1022 - k)) shapeCasts_S24x128_S1x24x128)

/-- The states of all times. -/
def tags : S1024x128.Idx → BitVec 32 :=
  fun y => tagBack x0 x1 x2 (1023 - (y 0).val) (ix2 0 (y 1))

/-- The labels of all sequences and times. -/
def labels : IVec S128x1024 32 :=
  k0_pay1 (k0_pay109 (F := F) (tags x0 x1 x2)) (k0_pay110 (F := F) (tags x0 x1 x2)) k0_pay111

end Run

end Cert.KernelIdeal.Model
-- ==== Proof.KI.Trip.lean ====
/-
  One trip of each of the kernel's two loops, over the buffers it touches: the forward trip reads one time's emissions and the
  transition table, stores that step's back-pointers and carries that step's scores on; the backward trip reads one time's
  back-pointers, stores the state they lead to and carries it on.
-/
module

public import proofs.«01_k».proof.Proof.KI.Vec
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.WritesUnit
public import Idealize.ShloMosaic.Lib.VecWindow

@[expose] public section

set_option maxRecDepth 16384

noncomputable section

namespace Cert.KernelIdeal.Body

open Cert.KernelIdeal Cert.KernelIdeal.Gen Cert.KernelIdeal.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The kernel's operands: the emissions, the transition table, the start scores, the labels, and the three scratch buffers. -/
abbrev mEm : Memref sig .tc .vmem S1024x4x128 .f32 := Memref.whole cc0_stg0_0
abbrev mTr : Memref sig .tc .vmem S17x24x128 .f32 := Memref.whole cc0_stg1_0
abbrev mSt : Memref sig .tc .vmem S24x128 .f32 := Memref.whole cc0_stg2_0
abbrev mOut : Memref sig .tc .vmem S128x1024 .i32 := Memref.whole cc0_stg3_0
abbrev mSpread : Memref sig .tc .vmem S1024x24x128 .f32 := Memref.whole cc0_scratch0
abbrev mBack : Memref sig .tc .vmem S1024x24x128 .i32 := Memref.whole cc0_scratch1
abbrev mTag : Memref sig .tc .vmem S1024x128 .i32 := Memref.whole cc0_scratch2

/-- A whole operand held on core `c`, with its contents. -/
abbrev holds {s : Shape} {e : EltTy} (c : Dev nD) (a : Memref sig .tc .vmem s e) (f : Buf (Elt F) (a.view.loc (c : Thread nD τ))) :
    sProp 𝕄 :=
  iprop(a.view.loc (c : Thread nD τ) ↦[a.view.set]{fullShare} f)

/-- The forward loop's region at the kernel's operands. -/
abbrev fwdBody (v26 : Vec F S24x128 .f32) :=
  k0_t1_body (F := F) mEm (Memref.isWhole_whole _) mTr (Memref.isWhole_whole _) mSt (Memref.isWhole_whole _)
    mOut (Memref.isWhole_whole _) mSpread (Memref.isWhole_whole _) mBack (Memref.isWhole_whole _) mTag (Memref.isWhole_whole _) v26

/-- The backward loop's region at the kernel's operands. -/
abbrev bwdBody (v31 : FVec F S24x128 .f32) (v112 : IVec S1x128 32) (v116 : IVec S1x128 1) (v117 : FVec F S1x128 .f32) :=
  k0_t2_body (F := F) mEm (Memref.isWhole_whole _) mTr (Memref.isWhole_whole _) mSt (Memref.isWhole_whole _)
    mOut (Memref.isWhole_whole _) mSpread (Memref.isWhole_whole _) mBack (Memref.isWhole_whole _) mTag (Memref.isWhole_whole _)
    v31 v112 v116 v117

/-- A load of one matrix of a stack of 1024 reads that matrix. -/
theorem load_row {e : EltTy} (a : Memref sig .tc .vmem S1024x24x128 e) (f : a.view.ty.Contents (Elt F)) {off : Fin 3 → ℕ}
    (inb : ∀ k, off k + S1x24x128.size k ≤ S1024x24x128.size k) (t : ℕ) (ht : t < 1024) (hoff : off = ![t, 0, 0]) :
    a.view.readAt (Elt F) (Rect.unit (s := S1024x24x128) off S1x24x128.size inb).toLoadRect f = rowOf (a.view.read (Elt F) f) t := by
  subst hoff
  funext y
  refine congrArg (a.view.read (Elt F) f) (funext fun k => Fin.ext ?_)
  have h0 : (y 0).val < 1 := (y 0).isLt
  fin_cases k
  · show t + 1 * (y 0).val = min t 1023
    omega
  · show 0 + 1 * (y 1).val = (y 1).val
    omega
  · show 0 + 1 * (y 2).val = (y 2).val
    omega

/-- A load of one matrix of the transition table reads that matrix. -/
theorem load_col (f : mTr.view.ty.Contents (Elt F)) {off : Fin 3 → ℕ}
    (inb : ∀ k, off k + S1x24x128.size k ≤ S17x24x128.size k) (i : Fin 17) (hoff : off = ![i.val, 0, 0]) :
    mTr.view.readAt (Elt F) (Rect.unit (s := S17x24x128) off S1x24x128.size inb).toLoadRect f = colOf (mTr.view.read (Elt F) f) i := by
  subst hoff
  funext y
  refine congrArg (mTr.view.read (Elt F) f) (funext fun k => Fin.ext ?_)
  have h0 : (y 0).val < 1 := (y 0).isLt
  fin_cases k
  · show i.val + 1 * (y 0).val = i.val
    omega
  · show 0 + 1 * (y 1).val = (y 1).val
    omega
  · show 0 + 1 * (y 2).val = (y 2).val
    omega

/-- Matrix `i` lies inside the transition table. -/
theorem col_inb (i : Fin 17) : ∀ k, (![i.val, 0, 0] : Fin 3 → ℕ) k + S1x24x128.size k ≤ S17x24x128.size k := by
  intro k
  have hi := i.isLt
  fin_cases k
  · show i.val + 1 ≤ 17
    omega
  · show 0 + 24 ≤ 24
    omega
  · show 0 + 128 ≤ 128
    omega

/-- The forward trip: from the scores carried in, it carries the next step's scores and leaves that step's back-pointers in matrix
    `k` of the back-pointer stack, the others untouched. -/
theorem fwd_trip (c : Dev nD) (fTr : mTr.view.ty.Contents (Elt F)) (fSp : mSpread.view.ty.Contents (Elt F))
    (fB : mBack.view.ty.Contents (Elt F)) (v26 : Vec F S24x128 .f32) (k : Fin k0_t1_loop.trips) (acc : FVec F S24x128 .f32) :
    (iprop(holds c mTr fTr ∗ holds c mSpread fSp ∗ holds c mBack fB) : sProp 𝕄)
      ⊢ wp frame (wpE (defs₀ (F := F)) Variants.none (c : Thread nD τ) none) Set.univ (fwdBody (F := F) v26 k acc)
        (fun out => iprop(⌜out = (step (colOf (mTr.view.read (Elt F) fTr)) (rowOf (mSpread.view.read (Elt F) fSp) (k.val + 1)) acc).1⌝
          ∗ holds c mTr fTr ∗ holds c mSpread fSp
          ∗ holds c mBack (mBack.view.writes (Elt F) fB [⟨Rect.unit (s := S1024x24x128) (k0_off2 k) S1x24x128.size (k0_off2_inb k),
              shapeCast S1x24x128
                (step (colOf (mTr.view.read (Elt F) fTr)) (rowOf (mSpread.view.read (Elt F) fSp) (k.val + 1)) acc).2
                shapeCasts_S24x128_S1x24x128⟩]))) := by
  have hk : k.val < 1023 := Nat.lt_of_lt_of_le k.isLt k0_t1_abs.2.1
  unfold fwdBody k0_t1_body
  iintro ⟨HT, HS, HB⟩
  sl_exec
  sl_step
  have hrow := load_row (F := F) mSpread fSp (k0_off1_inb k) (k.val + 1) (by omega) (k0_off1_eq k)
  rw [← hrow, show colOf (mTr.view.read (Elt F) fTr) = _ from (funext fun i => (load_col (F := F) fTr (col_inb i) i rfl).symm)]
  isplitr
  · ipureintro
    rfl
  isplitl [HT]
  · iexact HT
  isplitl [HS]
  · iexact HS
  iexact HB

/-- The backward trip: from the states carried in, it carries the states one time earlier and leaves them in that time's row of the
    states' array, the others untouched. -/
theorem bwd_trip (c : Dev nD) (fB : mBack.view.ty.Contents (Elt F)) (fTag : mTag.view.ty.Contents (Elt F))
    (v31 : FVec F S24x128 .f32) (v112 : IVec S1x128 32) (v116 : IVec S1x128 1) (v117 : FVec F S1x128 .f32)
    (k : Fin k0_t2_loop.trips) (acc : IVec S1x128 32) :
    (iprop(holds c mBack fB ∗ holds c mTag fTag) : sProp 𝕄)
      ⊢ wp frame (wpE (defs₀ (F := F)) Variants.none (c : Thread nD τ) none) Set.univ (bwdBody (F := F) v31 v112 v116 v117 k acc)
        (fun out => iprop(⌜out = k0_pay107 (F := F) acc (rowOf (mBack.view.read (Elt F) fB) (1022 - k.val))⌝
          ∗ holds c mBack fB
          ∗ holds c mTag (mTag.view.writes (Elt F) fTag [⟨Rect.unit (s := S1024x128) (k0_off4 k) S1x128.size (k0_off4_inb k),
              k0_pay108 (F := F) acc (rowOf (mBack.view.read (Elt F) fB) (1022 - k.val))⟩]))) := by
  have hk : k.val < 1023 := Nat.lt_of_lt_of_le k.isLt k0_t2_abs.2.1
  unfold bwdBody k0_t2_body
  iintro ⟨HB, HG⟩
  sl_exec
  sl_step
  rw [← load_row (F := F) mBack fB (k0_off3_inb k) (1022 - k.val) (by omega) (k0_off3_eq k)]
  isplitr
  · ipureintro
    rfl
  isplitl [HB]
  · iexact HB
  iexact HG

end Cert.KernelIdeal.Body
-- ==== Proof.KI.Body.lean ====
/-
  The kernel's body, run once over the buffers it is given: it spreads the emissions, goes forward through the times, picks the best
  last state, goes back through the times and writes the labels. Both loops go by an invariant over what their buffer holds so far.
-/
module

public import proofs.«01_k».proof.Proof.KI.Trip
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.WritesUnit
public import Idealize.ShloMosaic.Lib.VecWindow
public import Idealize.ShloMosaic.Lib.PointwiseCore

@[expose] public section

set_option maxRecDepth 16384

noncomputable section

namespace Cert.KernelIdeal.Body

open Cert.KernelIdeal Cert.KernelIdeal.Gen Cert.KernelIdeal.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The forward loop before trip `k`, carrying `acc`: `acc` is the scores of time `k`, and the first `k` matrices of the back-pointer
    stack hold the back-pointers of their times. -/
def fwdInv (c : Dev nD) (x0 : S1024x4x128.Idx → F .f32) (x2 : S24x128.Idx → F .f32) (fTr : mTr.view.ty.Contents (Elt F))
    (fSp : mSpread.view.ty.Contents (Elt F)) (k : ℕ) (acc : FVec F S24x128 .f32) : sProp 𝕄 :=
  iprop(∃ fB, holds c mTr fTr ∗ holds c mSpread fSp ∗ holds c mBack fB ∗ ⌜acc = score x0 (mTr.view.read (Elt F) fTr) x2 k
    ∧ ∀ s < k, s < 1023 → rowOf (mBack.view.read (Elt F) fB) s
        = shapeCast S1x24x128 (back x0 (mTr.view.read (Elt F) fTr) x2 s) shapeCasts_S24x128_S1x24x128⌝)

/-- Of a stack of matrices, a store of matrix `t` changes that one, -/
theorem row_stored {e : EltTy} (a : Memref sig .tc .vmem S1024x24x128 e) (f : a.view.ty.Contents (Elt F)) {off : Fin 3 → ℕ}
    (inb : ∀ k, off k + S1x24x128.size k ≤ S1024x24x128.size k) (w : S1x24x128.Idx → Elt F e) (t : ℕ) (ht : t < 1024)
    (hoff : off = ![t, 0, 0]) :
    rowOf (a.view.read (Elt F) (a.view.writes (Elt F) f [⟨Rect.unit (s := S1024x24x128) off S1x24x128.size inb, w⟩])) t = w := by
  funext y
  have h0 : (y 0).val < 1 := (y 0).isLt
  refine View.read_writes_cons_unit_of_mem a.view f inb w [] _ y hoff fun k => ?_
  fin_cases k
  · show min t 1023 = t + (y 0).val
    omega
  · show (y 1).val = 0 + (y 1).val
    omega
  · show (y 2).val = 0 + (y 2).val
    omega

/-- and leaves the others. -/
theorem row_kept {e : EltTy} (a : Memref sig .tc .vmem S1024x24x128 e) (f : a.view.ty.Contents (Elt F)) {off : Fin 3 → ℕ}
    (inb : ∀ k, off k + S1x24x128.size k ≤ S1024x24x128.size k) (w : S1x24x128.Idx → Elt F e) (t s : ℕ) (hs : s < t) (ht : t < 1024)
    (hoff : off = ![t, 0, 0]) :
    rowOf (a.view.read (Elt F) (a.view.writes (Elt F) f [⟨Rect.unit (s := S1024x24x128) off S1x24x128.size inb, w⟩])) s
      = rowOf (a.view.read (Elt F) f) s := by
  funext y
  refine View.read_writes_cons_unit_of_not_mem a.view f inb w [] _ hoff 0 (Or.inl ?_)
  show min s 1023 < t
  omega

/-- One forward trip keeps the invariant, the emissions being spread. -/
theorem fwd_step (c : Dev nD) (x0 : S1024x4x128.Idx → F .f32) (x2 : S24x128.Idx → F .f32) (fTr : mTr.view.ty.Contents (Elt F))
    (fSp : mSpread.view.ty.Contents (Elt F)) (hSp : mSpread.view.read (Elt F) fSp = spread x0) (v26 : Vec F S24x128 .f32)
    (k : Fin k0_t1_loop.trips) (acc : FVec F S24x128 .f32) :
    fwdInv c x0 x2 fTr fSp k.val acc
      ⊢ wp frame (wpE (defs₀ (F := F)) Variants.none (c : Thread nD τ) none) Set.univ (fwdBody (F := F) v26 k acc)
        (fwdInv c x0 x2 fTr fSp (k.val + 1)) := by
  have hk : k.val < 1023 := Nat.lt_of_lt_of_le k.isLt k0_t1_abs.2.1
  have ht := fun fB => fwd_trip c fTr fSp fB v26 k acc
  rw [hSp] at ht
  unfold fwdInv
  iintro ⟨%fB, HT, HS, HB, %hp⟩
  obtain ⟨rfl, hB⟩ := hp
  iapply (wp_wand_r Idealize.ShloMosaic.frame (wpE (defs₀ (F := F)) Variants.none (c : Thread nD τ) none) Set.univ)
  isplitl [HT HS HB]
  · iapply (ht fB)
    isplitl [HT]
    · iexact HT
    isplitl [HS]
    · iexact HS
    iexact HB
  iintro %out ⟨%hout, HT, HS, HB⟩
  iexists _
  isplitl [HT]
  · iexact HT
  isplitl [HS]
  · iexact HS
  isplitl [HB]
  · iexact HB
  ipureintro
  refine ⟨hout, fun s hs hs' => ?_⟩
  rcases Nat.lt_succ_iff_lt_or_eq.mp hs with h | h
  · rw [row_kept mBack fB (k0_off2_inb k) _ k.val s h (by omega) (k0_off2_eq k)]
    exact hB s h hs'
  · subst h
    exact row_stored mBack fB (k0_off2_inb k) _ k.val (by omega) (k0_off2_eq k)

/-- The backward loop before trip `k`, carrying `acc`: `acc` is the states `k` times before the last, and the rows of the last
    `k + 1` times hold their states. -/
def bwdInv (c : Dev nD) (x0 : S1024x4x128.Idx → F .f32) (x1 : S17x24x128.Idx → F .f32) (x2 : S24x128.Idx → F .f32)
    (fB : mBack.view.ty.Contents (Elt F)) (k : ℕ) (acc : IVec S1x128 32) : sProp 𝕄 :=
  iprop(∃ fTag, holds c mBack fB ∗ holds c mTag fTag ∗ ⌜acc = tagBack x0 x1 x2 k
    ∧ ∀ y : S1024x128.Idx, 1023 - (y 0).val ≤ k → mTag.view.read (Elt F) fTag y = tags x0 x1 x2 y⌝)

/-- After a store of row `t` of the states' array that row reads what was stored, -/
theorem tag_stored (f : mTag.view.ty.Contents (Elt F)) (L) {off : Fin 2 → ℕ} (inb : ∀ k, off k + S1x128.size k ≤ S1024x128.size k)
    (w : S1x128.Idx → Elt F .i32) (t : ℕ) (hoff : off = ![t, 0]) (y : S1024x128.Idx) (hy : (y 0).val = t) :
    mTag.view.read (Elt F) (mTag.view.writes (Elt F) f (⟨Rect.unit (s := S1024x128) off S1x128.size inb, w⟩ :: L)) y = w (ix2 0 (y 1)) := by
  refine View.read_writes_cons_unit_of_mem mTag.view f inb w L _ (ix2 0 (y 1)) hoff fun k => ?_
  fin_cases k
  · exact hy
  · show (y 1).val = 0 + (y 1).val
    omega

/-- and the other rows what they read before. -/
theorem tag_kept (f : mTag.view.ty.Contents (Elt F)) (L) {off : Fin 2 → ℕ} (inb : ∀ k, off k + S1x128.size k ≤ S1024x128.size k)
    (w : S1x128.Idx → Elt F .i32) (t : ℕ) (hoff : off = ![t, 0]) (y : S1024x128.Idx) (hy : (y 0).val ≠ t) :
    mTag.view.read (Elt F) (mTag.view.writes (Elt F) f (⟨Rect.unit (s := S1024x128) off S1x128.size inb, w⟩ :: L)) y
      = mTag.view.read (Elt F) (mTag.view.writes (Elt F) f L) y := by
  refine View.read_writes_cons_unit_of_not_mem mTag.view f inb w L _ hoff 0 ?_
  show (y 0).val < t ∨ t + 1 ≤ (y 0).val
  omega

/-- One backward trip keeps the invariant, the back-pointer stack holding the back-pointers of all times. -/
theorem bwd_step (c : Dev nD) (x0 : S1024x4x128.Idx → F .f32) (x1 : S17x24x128.Idx → F .f32) (x2 : S24x128.Idx → F .f32)
    (fB : mBack.view.ty.Contents (Elt F)) (hB : ∀ s < 1023, rowOf (mBack.view.read (Elt F) fB) s
      = shapeCast S1x24x128 (back x0 x1 x2 s) shapeCasts_S24x128_S1x24x128)
    (v31 : FVec F S24x128 .f32) (v112 : IVec S1x128 32) (v116 : IVec S1x128 1) (v117 : FVec F S1x128 .f32)
    (k : Fin k0_t2_loop.trips) (acc : IVec S1x128 32) :
    bwdInv c x0 x1 x2 fB k.val acc
      ⊢ wp frame (wpE (defs₀ (F := F)) Variants.none (c : Thread nD τ) none) Set.univ (bwdBody (F := F) v31 v112 v116 v117 k acc)
        (bwdInv c x0 x1 x2 fB (k.val + 1)) := by
  have hk : k.val < 1023 := Nat.lt_of_lt_of_le k.isLt k0_t2_abs.2.1
  have ht := fun fTag => bwd_trip c fB fTag v31 v112 v116 v117 k acc
  rw [hB (1022 - k.val) (by omega)] at ht
  unfold bwdInv
  iintro ⟨%fTag, HB, HG, %hp⟩
  obtain ⟨rfl, hG⟩ := hp
  iapply (wp_wand_r Idealize.ShloMosaic.frame (wpE (defs₀ (F := F)) Variants.none (c : Thread nD τ) none) Set.univ)
  isplitl [HB HG]
  · iapply (ht fTag)
    isplitl [HB]
    · iexact HB
    iexact HG
  iintro %out ⟨%hout, HB, HG⟩
  iexists _
  isplitl [HB]
  · iexact HB
  isplitl [HG]
  · iexact HG
  ipureintro
  refine ⟨hout, fun y hy => ?_⟩
  have hy1 : (y 0).val < 1024 := (y 0).isLt
  by_cases h : (y 0).val = 1022 - k.val
  · rw [tag_stored fTag [] (k0_off4_inb k) _ (1022 - k.val) (k0_off4_eq k) y h, tags, show 1023 - (y 0).val = k.val + 1 by omega,
      k0_pay108, shapeCast_self]
    rfl
  · rw [tag_kept fTag [] (k0_off4_inb k) _ (1022 - k.val) (k0_off4_eq k) y h]
    exact hG y (by omega)

/-- A load of channel `k` of the emissions reads that channel. -/
theorem load_chan (f : mEm.view.ty.Contents (Elt F)) {off : Fin 3 → ℕ}
    (inb : ∀ a, off a + S1024x1x128.size a ≤ S1024x4x128.size a) (k : Fin 4) (hoff : off = ![0, k.val, 0]) :
    mEm.view.readAt (Elt F) (Rect.unit (s := S1024x4x128) off S1024x1x128.size inb).toLoadRect f
      = fun y => mEm.view.read (Elt F) f (ix3 (y 0) k (y 2)) := by
  subst hoff
  funext y
  refine congrArg (mEm.view.read (Elt F) f) (funext fun a => Fin.ext ?_)
  have h0 : (y 1).val < 1 := (y 1).isLt
  fin_cases a
  · show 0 + 1 * (y 0).val = (y 0).val
    omega
  · show k.val + 1 * (y 1).val = k.val
    omega
  · show 0 + 1 * (y 2).val = (y 2).val
    omega

/-- A channel's block over `n` rows: the channel's row in each. -/
theorem chan_rows (v : Vec F S1024x1x128 .f32) :
    (∀ y, k0_pay50 v y = v (ix3 (y 0) 0 (y 2)))
      ∧ (∀ y, k0_pay51 v y = v (ix3 (y 0) 0 (y 2)))
      ∧ (∀ y, k0_pay52 v y = v (ix3 (y 0) 0 (y 2)))
      ∧ (∀ y, k0_pay53 v y = v (ix3 (y 0) 0 (y 2))) := by
  refine ⟨fun y => ?_, fun y => ?_, fun y => ?_, fun y => ?_⟩
  · pointwise [k0_pay50]
  · pointwise [k0_pay51]
  · rw [k0_pay52, shapeCast_self, shapeCast_self]
    exact congrArg v (funext fun a => by
      fin_cases a
      · rfl
      · exact Subsingleton.elim (α := Fin 1) _ _
      · rfl)
  · pointwise [k0_pay53]

/-- The emissions spread, at an index given by its coordinates' numbers. -/
theorem spread_at {α : Type} (x : S1024x4x128.Idx → α) (y : S1024x24x128.Idx) (t : Fin 1024) (k : Fin 4) (l : Fin 128)
    (h0 : (y 0).val = t.val) (h1 : chan (y 1).val = k) (h2 : (y 2).val = l.val) : spread x y = x (ix3 t k l) := by
  subst h1
  rw [spread, show (y 0 : Fin 1024) = t from Fin.ext h0, show (y 2 : Fin 128) = l from Fin.ext h2]

/-- A stored block of `n` rows from row `o` on, each the row of channel `k`, is that part of the spread emissions if rows `o` to
    `o + n` listen to channel `k`. -/
theorem chan_block (f : mEm.view.ty.Contents (Elt F)) {o n : ℕ}
    (inb : ∀ a, (![0, o, 0] : Fin 3 → ℕ) a + (![1024, n, 128] : Fin 3 → ℕ) a ≤ S1024x24x128.size a) (k : Fin 4)
    (w : (Rect.unit (s := S1024x24x128) ![0, o, 0] ![1024, n, 128] inb).shape.Idx → F .f32)
    (hw : ∀ x, w x = mEm.view.read (Elt F) f (ix3 (x 0) k (x 2))) (hk : ∀ r < n, chan (o + r) = k)
    (x : (Rect.unit (s := S1024x24x128) ![0, o, 0] ![1024, n, 128] inb).shape.Idx) :
    w x = spread (mEm.view.read (Elt F) f) ((Rect.unit (s := S1024x24x128) ![0, o, 0] ![1024, n, 128] inb).emb x) := by
  refine (hw x).trans (spread_at _ _ (x 0) k (x 2) ?_ ?_ ?_).symm
  · show 0 + 1 * (x 0).val = (x 0).val
    omega
  · show chan (o + 1 * (x 1).val) = k
    rw [Nat.one_mul]
    exact hk _ (x 1).isLt
  · show 0 + 1 * (x 2).val = (x 2).val
    omega

/-- An index whose row is one of the `n` from row `o` on lies in the block of those rows. -/
theorem in_block {o n : ℕ} (inb : ∀ a, (![0, o, 0] : Fin 3 → ℕ) a + (![1024, n, 128] : Fin 3 → ℕ) a ≤ S1024x24x128.size a)
    (y : S1024x24x128.Idx) (h : o ≤ (y 1).val ∧ (y 1).val < o + n) :
    y ∈ (Rect.unit (s := S1024x24x128) ![0, o, 0] ![1024, n, 128] inb).set := by
  rw [Rect.mem_set_unit]
  intro a
  have h0 : (y 0).val < 1024 := (y 0).isLt
  have h2 : (y 2).val < 128 := (y 2).isLt
  fin_cases a
  · show 0 ≤ (y 0).val ∧ (y 0).val < 0 + 1024
    omega
  · exact h
  · show 0 ≤ (y 2).val ∧ (y 2).val < 0 + 128
    omega

/-- The forward loop makes 1023 trips, -/
theorem fwd_trips : Scf.trips k0_t1_loop.lb k0_t1_loop.ub k0_t1_loop.st = 1023 := by decide

/-- and so does the backward loop. -/
theorem bwd_trips : Scf.trips k0_t2_loop.lb k0_t2_loop.ub k0_t2_loop.st = 1023 := by decide

/-- A store of the whole labels' buffer leaves what was stored. -/
theorem out_stored (f : mOut.view.ty.Contents (Elt F)) (w : S128x1024.Idx → Elt F .i32) :
    mOut.view.writes (Elt F) f [⟨Rect.unit (s := S128x1024) ![0, 0] S128x1024.size inb_S128x1024_S128x1024_0_0, w⟩] = w := by
  rw [View.writes_singleton]
  exact Memref.write_access_unit_zero_univ (Elt F) cc0_stg3_0 (funext fun a => by fin_cases a <;> rfl) inb_S128x1024_S128x1024_0_0 f w

/-- The body, from its seven buffers at any contents, leaves the three operands as they were, the labels of their contents in the
    result's buffer, and the scratch buffers at something. -/
theorem body (c : Dev nD) (f0 : mEm.view.ty.Contents (Elt F)) (f1 : mTr.view.ty.Contents (Elt F)) (f2 : mSt.view.ty.Contents (Elt F))
    (f3 : mOut.view.ty.Contents (Elt F)) (f4 : mSpread.view.ty.Contents (Elt F)) (f5 : mBack.view.ty.Contents (Elt F))
    (f6 : mTag.view.ty.Contents (Elt F)) :
    (iprop(holds c mEm f0 ∗ holds c mTr f1 ∗ holds c mSt f2 ∗ holds c mOut f3 ∗ holds c mSpread f4 ∗ holds c mBack f5
        ∗ holds c mTag f6) : sProp 𝕄)
      ⊢ wp frame (wpE (defs₀ (F := F)) Variants.none (c : Thread nD τ) none) Set.univ
        (cc0__viterbi_body mEm (Memref.isWhole_whole _) mTr (Memref.isWhole_whole _) mSt (Memref.isWhole_whole _)
          mOut (Memref.isWhole_whole _) mSpread (Memref.isWhole_whole _) mBack (Memref.isWhole_whole _) mTag (Memref.isWhole_whole _))
        (fun _ => iprop(holds c mEm f0 ∗ holds c mTr f1 ∗ holds c mSt f2
          ∗ holds c mOut (labels (mEm.view.read (Elt F) f0) (mTr.view.read (Elt F) f1) (mSt.view.read (Elt F) f2))
          ∗ (∃ g, holds c mSpread g) ∗ (∃ g, holds c mBack g) ∗ (∃ g, holds c mTag g))) := by
  iintro ⟨H0, H1, H2, H3, H4, H5, H6⟩
  sl_exec
  have hspread : mSpread.view.read (Elt F) (mSpread.view.writes (Elt F) mSpread.view.junk (body.sl.H4_4 f0)) = spread (mEm.view.read (Elt F) f0) := by
    funext y
    have hy : (y 1).val < 24 := (y 1).isLt
    refine View.read_writes_apply_of_pieces _ _ (spread (mEm.view.read (Elt F) f0)) _ ?_ y ?_
    · unfold body.sl.H4_4
      simp only [List.forall_mem_cons]
      refine ⟨chan_block f0 _ 3 _ (fun x => ((chan_rows _).2.2.2 x).trans (congrFun (load_chan f0 _ 3 rfl) _)) fun r hr => ?_,
        chan_block f0 _ 2 _ (fun x => ((chan_rows _).2.2.1 x).trans (congrFun (load_chan f0 _ 2 rfl) _)) fun r hr => ?_,
        chan_block f0 _ 1 _ (fun x => ((chan_rows _).2.1 x).trans (congrFun (load_chan f0 _ 1 rfl) _)) fun r hr => ?_,
        chan_block f0 _ 0 _ (fun x => ((chan_rows _).1 x).trans (congrFun (load_chan f0 _ 0 rfl) _)) fun r hr => ?_,
        fun p hp => absurd hp List.not_mem_nil⟩
      all_goals
        unfold chan
        split_ifs <;> first | rfl | omega
    · have hc : (y 1).val < 10 ∨ (10 ≤ (y 1).val ∧ (y 1).val < 15) ∨ (y 1).val = 15 ∨ 16 ≤ (y 1).val := by omega
      unfold body.sl.H4_4
      rcases hc with h | h | h | h
      · exact ⟨_, List.mem_cons_of_mem _ (List.mem_cons_of_mem _ (List.mem_cons_of_mem _ List.mem_cons_self)), in_block (by decide) y (by omega)⟩
      · exact ⟨_, List.mem_cons_of_mem _ (List.mem_cons_of_mem _ List.mem_cons_self), in_block (by decide) y (by omega)⟩
      · exact ⟨_, List.mem_cons_of_mem _ List.mem_cons_self, in_block (by decide) y (by omega)⟩
      · exact ⟨_, List.mem_cons_self, in_block (by decide) y (by omega)⟩
  iapply (Scf.wp_for_bind Idealize.ShloMosaic.frame (wpE (defs₀ (F := F)) Variants.none (c : Thread nD τ) none) Set.univ _ _ _ k0_t1_ok _ _
    (fwdInv c (mEm.view.read (Elt F) f0) (mSt.view.read (Elt F) f2) f1 _) fun k acc => fwd_step c _ _ f1 _ hspread _ k acc) $$ [H1 H4 H5]
  · unfold fwdInv
    iexists f5
    isplitl [H1]
    · iexact H1
    isplitl [H4]
    · iexact H4
    isplitl [H5]
    · iexact H5
    ipureintro
    refine ⟨?_, fun s hs => absurd hs (Nat.not_lt_zero s)⟩
    unfold body.sl.r body.sl.v27
    have hrow := load_row (F := F) mSpread (mSpread.view.writes (Elt F) mSpread.view.junk (body.sl.H4_4 f0))
      inb_S1024x24x128_S1x24x128_0_0_0 0 (by omega) rfl
    rw [hspread] at hrow
    rw [View.readAt_full, score, ← hrow]
    rfl
  iintro %acc HI
  unfold fwdInv
  icases HI with ⟨%fB, H1, H4, H5, %hp⟩
  obtain ⟨rfl, hB⟩ := hp
  rw [fwd_trips] at hB ⊢
  sl_exec
  have hlast : k0_pay105 (body.sl.r_1 f0 f1 f2) (body.sl.r_4 f0 f1 f2) (body.sl.r_5 f0 f1 f2) (body.sl.r_6 f0 f1 f2)
      = lastTag (mEm.view.read (Elt F) f0) (mTr.view.read (Elt F) f1) (mSt.view.read (Elt F) f2) := last_eq _
  rw [hlast, k0_pay106, hlast, shapeCast_self]
  iapply (Scf.wp_for_bind Idealize.ShloMosaic.frame (wpE (defs₀ (F := F)) Variants.none (c : Thread nD τ) none) Set.univ _ _ _ k0_t2_ok _ _
    (bwdInv c (mEm.view.read (Elt F) f0) (mTr.view.read (Elt F) f1) (mSt.view.read (Elt F) f2) fB)
      fun k acc => bwd_step c _ _ _ fB (fun s hs => hB s hs hs) _ _ _ _ k acc) $$ [H5 H6]
  · unfold bwdInv
    iexists _
    isplitl [H5]
    · iexact H5
    isplitl [H6]
    · iexact H6
    ipureintro
    refine ⟨rfl, fun y hy => ?_⟩
    have hy1 : (y 0).val < 1024 := (y 0).isLt
    have h : (y 0).val = 1023 := by omega
    rw [tag_stored f6 [] _ _ 1023 rfl y h, tags, h]
    rfl
  iintro %acc HI
  unfold bwdInv
  icases HI with ⟨%fTag, H5, H6, %hp⟩
  obtain ⟨rfl, hG⟩ := hp
  rw [bwd_trips] at hG
  have hG : mTag.view.read (Elt F) fTag = tags (mEm.view.read (Elt F) f0) (mTr.view.read (Elt F) f1) (mSt.view.read (Elt F) f2) :=
    funext fun y => hG y (by omega)
  sl_exec
  sl_step
  have hout : ∀ w, w = labels (mEm.view.read (Elt F) f0) (mTr.view.read (Elt F) f1) (mSt.view.read (Elt F) f2) →
      mOut.view.writes (Elt F) f3 [⟨Rect.unit (s := S128x1024) ![0, 0] S128x1024.size inb_S128x1024_S128x1024_0_0, w⟩]
      = labels (mEm.view.read (Elt F) f0) (mTr.view.read (Elt F) f1) (mSt.view.read (Elt F) f2) := fun w hw => by
    rw [out_stored, hw]
  rw [hout _ (by unfold body.sl.r_7 body.sl.r_8; rw [View.readAt_full, hG]; rfl)]
  isplitl [H0]
  · iexact H0
  isplitl [H1]
  · iexact H1
  isplitl [H2]
  · iexact H2
  isplitl [H3]
  · iexact H3
  isplitl [H4]
  · iexists _
    iexact H4
  isplitl [H5]
  · iexists _
    iexact H5
  iexists _
  iexact H6

end Cert.KernelIdeal.Body
-- ==== Proof.KI.Run.lean ====
/-
  The kernel's run: its one grid point's body, the launch around it, the frame, and what the result array holds at the end.
-/
module

public import proofs.«01_k».proof.Proof.KI.Body
public import Idealize.ShloMosaic.Lib.Pipeline.Value
public import Idealize.ShloMosaic.Lib.Pipeline.FrameBody

@[expose] public section

set_option maxRecDepth 16384

noncomputable section

namespace Cert.KernelIdeal.Body

open Cert.KernelIdeal Cert.KernelIdeal.Gen Cert.KernelIdeal.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The labels the kernel writes, from the three arrays it stages. -/
def result (c : Dev nD) : S128x1024.Idx → BitVec 32 :=
  labels (V m c main_call0_v0) (V m c main_call0_cst) (V m c main_call0_cst_0)

/-- The pipeline's proof data: the inputs' buffers keep what they hold, the result's buffer ends at the labels. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => labels (iblk m c 0 t) (iblk m c 1 t) (iblk m c 2 t)
  Φ _ := Pipeline.ΦA spec0 c
  q _ := fullShare
  owed _ := 0

/-- Each array starts at what it holds when the region is entered. -/
theorem A_eq (c : Dev nD) (w : Fin cfg0.W) : (dats m 0 c).A w = V m c (Pipeline.arrRef spec0 w) := by
  dsimp only [dats]

/-- What the body starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The scratch buffers, each at some contents. -/
theorem scratch_eq (c : Dev nD) : (Pipeline.scopedRest spec0 c : sProp 𝕄)
    = iprop((∃ g, holds c mSpread g) ∗ (∃ g, holds c mBack g) ∗ (∃ g, holds c mTag g)) := by
  rw [scopedRest0_eq]
  unfold holds
  rw [show mSpread.view.set = Finset.univ from View.set_whole _, show mBack.view.set = Finset.univ from View.set_whole _,
    show mTag.view.set = Finset.univ from View.set_whole _]

/-- The body over owned buffers, whatever else is held (`Hg`, `W`): the result's buffer ends at the labels of the three inputs. -/
theorem body_owns (c : Dev nD) (W : sProp 𝕄) {D0 D1 D2 D3 : Type} (x0 : S1024x4x128.Idx → F .f32) (x1 : S17x24x128.Idx → F .f32)
    (x2 : S24x128.Idx → F .f32) (x3 : D3 → S128x1024.Idx → BitVec 32) :
    (iprop(Pipeline.ΦA spec0 c ∗ W
      ∗ (∃ _ : D0, owns (c : Thread nD τ) mEm fullShare x0) ∗ (∃ _ : D1, owns (c : Thread nD τ) mTr fullShare x1)
      ∗ (∃ _ : D2, owns (c : Thread nD τ) mSt fullShare x2) ∗ (∃ d : D3, owns (c : Thread nD τ) mOut fullShare (x3 d))) : sProp 𝕄)
      ⊢ wp frame (wpE (defs₀ (F := F)) Variants.none (c : Thread nD τ) none) Set.univ
        (cc0__viterbi_body mEm (Memref.isWhole_whole _) mTr (Memref.isWhole_whole _) mSt (Memref.isWhole_whole _)
          mOut (Memref.isWhole_whole _) mSpread (Memref.isWhole_whole _) mBack (Memref.isWhole_whole _) mTag (Memref.isWhole_whole _))
        (fun _ => iprop(Pipeline.ΦA spec0 c ∗ W
          ∗ owns (c : Thread nD τ) mEm fullShare x0 ∗ owns (c : Thread nD τ) mTr fullShare x1
          ∗ owns (c : Thread nD τ) mSt fullShare x2 ∗ owns (c : Thread nD τ) mOut fullShare (labels x0 x1 x2))) := by
  unfold Pipeline.ΦA
  rw [scratch_eq]
  unfold owns
  iintro ⟨⟨⟨⟨%s0, HS0⟩, ⟨%s1, HS1⟩, ⟨%s2, HS2⟩⟩, Hg⟩, HW, ⟨%d0, %f0, %h0, H0⟩, ⟨%d1, %f1, %h1, H1⟩, ⟨%d2, %f2, %h2, H2⟩, ⟨%d3, %f3, %h3, H3⟩⟩
  iapply (wp_wand_r Idealize.ShloMosaic.frame (wpE (defs₀ (F := F)) Variants.none (c : Thread nD τ) none) Set.univ)
  isplitl [H0 H1 H2 H3 HS0 HS1 HS2]
  · iapply (body (F := F) c f0 f1 f2 f3 s0 s1 s2)
    isplitl [H0]
    · iexact H0
    isplitl [H1]
    · iexact H1
    isplitl [H2]
    · iexact H2
    isplitl [H3]
    · iexact H3
    isplitl [HS0]
    · iexact HS0
    isplitl [HS1]
    · iexact HS1
    iexact HS2
  iintro %a ⟨H0, H1, H2, H3, ⟨%g0, HS0⟩, ⟨%g1, HS1⟩, ⟨%g2, HS2⟩⟩
  isplitl [HS0 HS1 HS2 Hg]
  · isplitr [Hg]
    · isplitl [HS0]
      · iexists _
        iexact HS0
      isplitl [HS1]
      · iexists _
        iexact HS1
      iexists _
      iexact HS2
    iexact Hg
  isplitl [HW]
  · iexact HW
  isplitl [H0]
  · iexists _
    isplitr
    swap
    · iexact H0
    ipureintro
    exact h0
  isplitl [H1]
  · iexists _
    isplitr
    swap
    · iexact H1
    ipureintro
    exact h1
  isplitl [H2]
  · iexists _
    isplitr
    swap
    · iexact H2
    ipureintro
    exact h2
  iexists _
  isplitr
  swap
  · iexact H3
  ipureintro
  rw [← h0, ← h1, ← h2]
  rfl

/-- The body from `bodyPre` ends in `bodyPost`. -/
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost
  rw [show (dats m 0 c).Φ t0_0.succ = Pipeline.ΦA spec0 c from rfl, show (dats m 0 c).Φ t0_0.castSucc = Pipeline.ΦA spec0 c from rfl,
    show (dats m 0 c).owesAt () t0_0.succ = (dats m 0 c).owesAt () t0_0.castSucc from rfl]
  simp only [before0_0_of m (dats m 0 c) (A_eq m c 0) (fun _ => rfl), before0_1_of m (dats m 0 c) (A_eq m c 1) (fun _ => rfl),
    before0_2_of m (dats m 0 c) (A_eq m c 2) (fun _ => rfl)]
  rw [show (dats m 0 c).after 0 t0_0 = iblk m c 0 t0_0 from rfl, show (dats m 0 c).after 1 t0_0 = iblk m c 1 t0_0 from rfl,
    show (dats m 0 c).after 2 t0_0 = iblk m c 2 t0_0 from rfl,
    show (dats m 0 c).after 3 t0_0 = labels (iblk m c 0 t0_0) (iblk m c 1 t0_0) (iblk m c 2 t0_0) from rfl]
  exact triple_restated (body_owns c ((dats m 0 c).owesAt () t0_0.castSucc) (iblk m c 0 t0_0) (iblk m c 1 t0_0) (iblk m c 2 t0_0)
    ((dats m 0 c).before 3 t0_0)) rfl .rfl fun _ => .rfl

/-- The pipeline's call of the body at a point is the body on the buffers that point is on. -/
theorem defs₀_row (t : Fin cfg0.N) : defs₀ (F := F) .tc cfg0.body (cfg0.bodyArgs t (cfg0.slots t)) = bodyAt0 t := by
  unfold defs₀
  rw [Defs.onTc_tc]

/-- What the pipeline asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: it ends, with every array at what the pipeline leaves in it and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input's block, at the one point, is its whole array. -/
theorem iblk_em (c : Dev nD) : iblk m c 0 t0_0 = V m c main_call0_v0 := by
  funext y
  rw [iblk, View.read_apply]
  refine congrArg (V m c main_call0_v0) (funext fun a => Fin.ext ?_)
  exact Pipeline.Window.rect_emb_val_of_index_zero win0_0 t0_0 a (by fin_cases a <;> rfl) y

theorem iblk_tr (c : Dev nD) : iblk m c 1 t0_0 = V m c main_call0_cst := by
  funext y
  rw [iblk, View.read_apply]
  refine congrArg (V m c main_call0_cst) (funext fun a => Fin.ext ?_)
  exact Pipeline.Window.rect_emb_val_of_index_zero win0_1 t0_0 a (by fin_cases a <;> rfl) y

theorem iblk_st (c : Dev nD) : iblk m c 2 t0_0 = V m c main_call0_cst_0 := by
  funext y
  rw [iblk, View.read_apply]
  refine congrArg (V m c main_call0_cst_0) (funext fun a => Fin.ext ?_)
  exact Pipeline.Window.rect_emb_val_of_index_zero win0_2 t0_0 a (by fin_cases a <;> rfl) y

/-- The result array ends at the labels. -/
theorem final_out (c : Dev nD) : (dats m 0 c).arrAt 3 cfg0.N = result m c :=
  (dats m 0 c).arrAt_eq_of_cover 3 (result m c) (fun t _ => by
      obtain rfl := fin_N0 t
      funext y
      rw [View.read_apply]
      unfold result
      rw [← iblk_em m c, ← iblk_tr m c, ← iblk_st m c]
      refine congrArg (labels (iblk m c 0 t0_0) (iblk m c 1 t0_0) (iblk m c 2 t0_0)) (funext fun a => Fin.ext ?_)
      exact (Pipeline.Window.rect_emb_val_of_index_zero win0_3 t0_0 a (by fin_cases a <;> rfl) y).symm)
    fun i => ⟨t0_0, flush0_3 t0_0, by
      have h := ((cfg0.win 3).blk t0_0).view.emb_mem_set i
      have e : ((cfg0.win 3).blk t0_0).view.emb i = i := funext fun a => Fin.ext
        (Pipeline.Window.rect_emb_val_of_index_zero win0_3 t0_0 a (by fin_cases a <;> rfl) i)
      rw [e] at h
      exact h⟩

/-- The kernel's run, read at its arguments and its result. -/
theorem run : θ_run defs (onTc (τ := τ) (main (F := F))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run (defs (F := F)) _ _).mono (fun r h => ⟨fun c => ⟨((h.1 c).1 3).trans (final_out m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩) (run_main m ρ)

/-- The frame: the run ends, leaves its arguments alone and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run (defs (F := F)) _ _).mono (fun r h => ⟨fun c => (h.1 c).2, h.2⟩) (run m ρ)

end Cert.KernelIdeal.Body

end
-- ==== Proof.Model.lean ====
/-
  Viterbi decoding of one sequence, over the extended reals: the scores, the back-pointers, the best path and its labels. Both the
  kernel and the reference are shown to compute this. A maximum is attained at a FIRST state, which is what a tie is broken by.
-/
module

public import Idealize.ShloMosaic.PureOps.Ideal

@[expose] public section

noncomputable section

namespace Cert.Viterbi

/-- State `i` is the first one at which `f` is greatest. -/
def FirstMax (f : Fin 17 → EReal) (i : Fin 17) : Prop := (∀ k, f k ≤ f i) ∧ ∀ k, k < i → f k < f i

/-- There is such a state. -/
theorem exists_firstMax (f : Fin 17 → EReal) : ∃ i, FirstMax f i := by
  classical
  obtain ⟨a, ha⟩ := Finite.exists_max f
  have hne : (Finset.univ.filter fun i : Fin 17 => ∀ k, f k ≤ f i).Nonempty := ⟨a, by simpa using ha⟩
  refine ⟨Finset.min' _ hne, ?_, fun k hk => ?_⟩
  · exact (Finset.mem_filter.mp (Finset.min'_mem _ hne)).2
  · have hm := (Finset.mem_filter.mp (Finset.min'_mem _ hne)).2
    refine lt_of_le_of_ne (hm k) fun he => ?_
    have : k ∈ Finset.univ.filter fun i : Fin 17 => ∀ k, f k ≤ f i := Finset.mem_filter.mpr ⟨Finset.mem_univ _, fun l => he ▸ hm l⟩
    exact absurd (Finset.min'_le _ k this) (not_le.mpr hk)

/-- There is only one. -/
theorem FirstMax.unique {f : Fin 17 → EReal} {i j : Fin 17} (hi : FirstMax f i) (hj : FirstMax f j) : i = j := by
  rcases lt_trichotomy i j with h | h | h
  · exact absurd (hi.1 j) (not_le.mpr (hj.2 i h))
  · exact h
  · exact absurd (hj.1 i) (not_le.mpr (hi.2 j h))

/-- The first state at which `f` is greatest. -/
def firstMax (f : Fin 17 → EReal) : Fin 17 := (exists_firstMax f).choose

theorem firstMax_spec (f : Fin 17 → EReal) : FirstMax f (firstMax f) := (exists_firstMax f).choose_spec

theorem FirstMax.eq {f : Fin 17 → EReal} {i : Fin 17} (h : FirstMax f i) : firstMax f = i := (firstMax_spec f).unique h

/-- Among the states from `lo` up to `hi`, the greatest value of `f` is `v`, first attained at the state whose word is `s`. -/
def Best (f : Fin 17 → EReal) (lo hi : ℕ) (v : EReal) (s : BitVec 32) : Prop :=
  ∃ i : Fin 17, lo ≤ i.val ∧ i.val < hi ∧ v = f i ∧ s = BitVec.ofNat 32 i.val
    ∧ (∀ k : Fin 17, lo ≤ k.val → k.val < hi → f k ≤ f i) ∧ ∀ k : Fin 17, lo ≤ k.val → k.val < i.val → f k < f i

/-- Of one state, its value. -/
theorem Best.one (f : Fin 17 → EReal) (i : Fin 17) (lo hi : ℕ) (hlo : lo = i.val) (hhi : hi = i.val + 1) :
    Best f lo hi (f i) (BitVec.ofNat 32 i.val) := by
  subst hlo hhi
  refine ⟨i, le_rfl, by omega, rfl, rfl, fun k h1 h2 => ?_, fun k h1 h2 => by omega⟩
  obtain rfl : k = i := Fin.ext (by omega)
  exact le_rfl

/-- Of two neighbouring ranges: the right one's best if it is greater, the left one's otherwise. -/
theorem Best.join {f : Fin 17 → EReal} {lo mid hi : ℕ} {v w : EReal} {s u : BitVec 32} (hl : Best f lo mid v s) (hr : Best f mid hi w u) :
    Best f lo hi (if v < w then w else v) (if v < w then u else s) := by
  obtain ⟨i, i1, i2, rfl, rfl, i3, i4⟩ := hl
  obtain ⟨j, j1, j2, rfl, rfl, j3, j4⟩ := hr
  split
  · rename_i h
    refine ⟨j, by omega, j2, rfl, rfl, fun k h1 h2 => ?_, fun k h1 h2 => ?_⟩
    · rcases Nat.lt_or_ge k.val mid with hk | hk
      · exact (i3 k h1 hk).trans h.le
      · exact j3 k hk h2
    · rcases Nat.lt_or_ge k.val mid with hk | hk
      · exact (i3 k h1 hk).trans_lt h
      · exact j4 k hk h2
  · rename_i h
    refine ⟨i, i1, by omega, rfl, rfl, fun k h1 h2 => ?_, i4⟩
    rcases Nat.lt_or_ge k.val mid with hk | hk
    · exact i3 k h1 hk
    · exact (j3 k hk h2).trans (not_lt.mp h)

/-- Of all states: the greatest value, and its first state. -/
theorem Best.all {f : Fin 17 → EReal} {v : EReal} {s : BitVec 32} (h : Best f 0 17 v s) :
    v = f (firstMax f) ∧ s = BitVec.ofNat 32 (firstMax f).val := by
  obtain ⟨i, _, _, rfl, rfl, h1, h2⟩ := h
  have : firstMax f = i := FirstMax.eq ⟨fun k => h1 k (by omega) k.isLt, fun k hk => h2 k (by omega) hk⟩
  rw [this]
  exact ⟨rfl, rfl⟩

/-- The channel of the emissions that a state listens to. -/
def chan (r : ℕ) : Fin 4 := if r < 10 then 0 else if r < 15 then 1 else if r < 16 then 2 else 3

/-- The emission of state `j` at time `t` (the last one, past the end), from the emissions of the channels. -/
def emit (x : Fin 4 → Fin 1024 → EReal) (t : ℕ) (j : Fin 17) : EReal := x (chan j.val) ⟨min t 1023, by omega⟩

section Path

variable (e : ℕ → Fin 17 → EReal) (tr : Fin 17 → Fin 17 → EReal) (st et : Fin 17 → EReal)

/-- The best score of a path that ends in state `j` at time `t`. -/
def score : ℕ → Fin 17 → EReal
  | 0, j => st j + e 0 j
  | t + 1, j => let f := fun i => tr i j + score t i + e (t + 1) j; f (firstMax f)

/-- The state at time `t` on the best path to state `j` at time `t + 1`. -/
def back (t : ℕ) (j : Fin 17) : Fin 17 := firstMax fun i => tr i j + score e tr st t i + e (t + 1) j

/-- The state of the best path, `k` steps before its end. -/
def tag : ℕ → Fin 17
  | 0 => firstMax fun i => score e tr st 1023 i + et i
  | k + 1 => back e tr st (1022 - k) (tag k)

end Path

/-- The label of a state. -/
def label (s : Fin 17) : BitVec 32 := if s.val < 5 then 0 else if s.val < 10 then 1 else if s.val < 15 then 2 else BitVec.ofNat 32 (s.val - 12)

end Cert.Viterbi
-- ==== Proof.KI.Value.lean ====
/-
  The kernel's vectors over the extended reals: at every state and sequence they hold what Viterbi decoding of that sequence says.
-/
module

public import proofs.«01_k».proof.Proof.KI.Vec
public import proofs.«01_k».proof.Proof.Model
public import Idealize.ShloMosaic.Lib.Pointwise
public import Idealize.ShloMosaic.PureOps.Reduce

@[expose] public section

set_option maxRecDepth 16384

noncomputable section

namespace Cert.KernelIdeal.Model

open Cert.KernelIdeal Cert.KernelIdeal.Gen
open Idealize.ShloMosaic Idealize.ShloMosaic.Pointwise
open Cert.Viterbi (Best firstMax)

/-- The better of two nodes at an index: the right one if its value is greater. -/
theorem join_at {s : Shape} (l r : Node Ideal s) (y : s.Idx) :
    (join l r).1 y = (if l.1 y < r.1 y then r.1 y else l.1 y) ∧ (join l r).2 y = (if l.1 y < r.1 y then r.2 y else l.2 y) := by
  have h : cmpf (F := Ideal) .ogt r.1 l.1 y = BitVec.ofBool (decide (l.1 y < r.1 y)) := rfl
  unfold join
  constructor
  · show (if cmpf (F := Ideal) .ogt r.1 l.1 y = 1#1 then _ else _) = _
    rw [h]
    by_cases hl : l.1 y < r.1 y <;> simp [hl]
  · show (if cmpf (F := Ideal) .ogt r.1 l.1 y = 1#1 then _ else _) = _
    rw [h]
    by_cases hl : l.1 y < r.1 y <;> simp [hl]

/-- Joining nodes that hold the best of neighbouring ranges of states. -/
theorem join_best {s : Shape} {f : Fin 17 → EReal} {lo mid hi : ℕ} {l r : Node Ideal s} {y : s.Idx}
    (hl : Best f lo mid (l.1 y) (l.2 y)) (hr : Best f mid hi (r.1 y) (r.2 y)) : Best f lo hi ((join l r).1 y) ((join l r).2 y) := by
  rw [(join_at l r y).1, (join_at l r y).2]
  exact hl.join hr

/-- The best of seventeen nodes, each holding its own state's value. -/
theorem best_at {s : Shape} (f : Fin 17 → EReal) (n : Fin 17 → Node Ideal s) (y : s.Idx) (h1 : ∀ i, (n i).1 y = f i)
    (h2 : ∀ i, (n i).2 y = BitVec.ofNat 32 i.val) : Best f 0 17 ((best n).1 y) ((best n).2 y) := by
  have h : ∀ i : Fin 17, Best f i.val (i.val + 1) ((n i).1 y) ((n i).2 y) := fun i => by
    rw [h1, h2]
    exact .one f i _ _ rfl rfl
  exact join_best
    (join_best
      (join_best (join_best (join_best (h 0) (h 1)) (join_best (h 2) (h 3))) (join_best (join_best (h 4) (h 5)) (join_best (h 6) (h 7))))
      (join_best (join_best (join_best (h 8) (h 9)) (join_best (h 10) (h 11)))
        (join_best (join_best (h 12) (h 13)) (join_best (h 14) (h 15)))))
    (h 16)

/-- A candidate score at state `j` of sequence `b`. -/
theorem cand_at (col em : S1x24x128.Idx → Ideal .f32) (acc : FVec Ideal S24x128 .f32) (i : Fin 17) (j : Fin 24) (b : Fin 128) :
    cand col em acc i (ix2 j b) = acc (ix2 ⟨i.val, by omega⟩ b) + col (ix3 0 j b) + em (ix3 0 j b) := by
  pointwise [cand]

/-- One forward step at state `j` of sequence `b`. -/
theorem step_at (cols : Fin 17 → S1x24x128.Idx → Ideal .f32) (em : S1x24x128.Idx → Ideal .f32) (acc : FVec Ideal S24x128 .f32)
    (j : Fin 24) (b : Fin 128) : Best (fun i => acc (ix2 ⟨i.val, by omega⟩ b) + cols i (ix3 0 j b) + em (ix3 0 j b)) 0 17
      ((step cols em acc).1 (ix2 j b)) ((step cols em acc).2 (ix2 j b)) :=
  best_at _ _ _ (fun i => cand_at (cols i) em acc i j b) fun _ => rfl

/-- An end node at sequence `b`. -/
theorem lastNode_at (acc : FVec Ideal S24x128 .f32) (i : Fin 17) (e : Ideal .f32) (b : Fin 128) :
    lastNode acc i e (ix2 0 b) = acc (ix2 ⟨i.val, by omega⟩ b) + e := by
  pointwise [lastNode]

/-- The end nodes joined one after another. -/
theorem lastBest_at (acc : FVec Ideal S24x128 .f32) (b : Fin 128) (f : Fin 17 → EReal)
    (hf : ∀ i : Fin 17, f i = acc (ix2 ⟨i.val, by omega⟩ b) + (Scalar.ofBits .f32 (endBits i.val) : Ideal .f32)) :
    ∀ (k : ℕ) (h : k < 17), Best f 0 (k + 1) ((lastBest acc k h).1 (ix2 0 b)) ((lastBest acc k h).2 (ix2 0 b))
  | 0, h => by
    have := Best.one f ⟨0, h⟩ 0 1 rfl rfl
    rw [hf, ← lastNode_at] at this
    exact this
  | k + 1, h => by
    refine join_best (lastBest_at acc b f hf k (by omega)) ?_
    have := Best.one f ⟨k + 1, h⟩ (k + 1) (k + 2) rfl rfl
    rw [hf, ← lastNode_at] at this
    exact this

/-- The greatest of words that are one given non-negative word somewhere and zero elsewhere is that word. -/
theorem fold_max_pick {ι : Type} [DecidableEq ι] (S : Finset ι) (g : ι → BitVec 32) (w : BitVec 32) (hw : 0 ≤ w.toInt)
    (hg : ∀ i ∈ S, g i = w ∨ g i = 0#32) (hx : ∃ i ∈ S, g i = w) : S.fold IntOp.maxsi 2147483648#32 g = w := by
  have hm : ∀ x y : BitVec 32, (IntOp.maxsi x y).toInt = max x.toInt y.toInt := fun x y => by
    unfold IntOp.maxsi
    rw [BitVec.slt_eq_decide]
    split
    · rename_i h
      exact (max_eq_left (of_decide_eq_true h).le).symm
    · rename_i h
      exact (max_eq_right (not_lt.mp fun hl => h (decide_eq_true hl))).symm
  have hf : (S.fold IntOp.maxsi 2147483648#32 g).toInt = S.fold max (-2147483648) fun i => (g i).toInt :=
    (Finset.fold_hom (op := IntOp.maxsi) (op' := max) (m := BitVec.toInt) (fun x y => hm x y)).symm
  refine BitVec.eq_of_toInt_eq (hf.trans (le_antisymm ?_ ?_))
  · refine Finset.fold_max_le _ |>.mpr ⟨by omega, fun i hi => ?_⟩
    rcases hg i hi with h | h <;> rw [h]
    exact hw
  · obtain ⟨i, hi, h⟩ := hx
    exact Finset.le_fold_max _ |>.mpr (.inr ⟨i, hi, by rw [h]⟩)

/-- One step backwards: the entry of the back-pointers at the current state. -/
theorem pick_at (t : IVec S1x128 32) (h : IVec S24x128 32) (b : Fin 128) (s v : Fin 17)
    (ht : t (ix2 0 b) = BitVec.ofNat 32 s.val) (hh : h (ix2 ⟨s.val, by omega⟩ b) = BitVec.ofNat 32 v.val) :
    k0_pay107 (F := Ideal) t (shapeCast S1x24x128 h shapeCasts_S24x128_S1x24x128) (ix2 0 b) = BitVec.ofNat 32 v.val := by
  have hv : ∀ v : Fin 17, 0 ≤ (BitVec.ofNat 32 v.val).toInt := by decide
  have hs : ∀ (i : Fin 24) (s : Fin 17), IntOp.cmpi .eq (BitVec.ofNat 32 i.val) (BitVec.ofNat 32 s.val) = BitVec.ofBool (i.val == s.val) := by
    decide +kernel
  pointwise [k0_pay107]
  rw [ht]
  simp only [hs, Scalar.select]
  refine fold_max_pick _ _ _ (hv v) (fun i _ => ?_) ⟨⟨s.val, by omega⟩, Finset.mem_univ _, ?_⟩
  · by_cases hi : i.val = s.val
    · have h' : i = ⟨s.val, by omega⟩ := Fin.ext hi
      rw [h']
      simp [hh]
    · have h' : (i.val == s.val) = false := beq_false_of_ne hi
      rw [h']
      simp
  · simp [hh]

/-- The labels, at sequence `b` and time `t`, of states. -/
theorem label_at (x : S1024x128.Idx → BitVec 32) (t : Fin 1024) (b : Fin 128) (s : Fin 17) (h : x (ix2 t b) = BitVec.ofNat 32 s.val) :
    k0_pay1 (k0_pay109 (F := Ideal) x) (k0_pay110 (F := Ideal) x) k0_pay111 (ix2 b t) = Cert.Viterbi.label s := by
  have hd : ∀ s : Fin 17, Scalar.select (IntOp.cmpi CmpIPredicate.slt (BitVec.ofNat 32 s.val) 5#32) (0#32)
      (Scalar.select (IntOp.cmpi CmpIPredicate.slt (BitVec.ofNat 32 s.val) 10#32) (1#32)
        (Scalar.select (IntOp.cmpi CmpIPredicate.slt (BitVec.ofNat 32 s.val) 15#32) (2#32) (IntOp.subi (BitVec.ofNat 32 s.val) 12#32)))
        = Cert.Viterbi.label s := by decide +kernel
  pointwise [k0_pay1, k0_pay109, k0_pay110, k0_pay111]
  rw [h]
  exact hd s

section Run

variable (x0 : S1024x4x128.Idx → Ideal .f32) (x1 : S17x24x128.Idx → Ideal .f32) (x2 : S24x128.Idx → Ideal .f32)
variable (b : Fin 128) (e : ℕ → Fin 17 → EReal) (tr : Fin 17 → Fin 17 → EReal) (st et : Fin 17 → EReal)

/-- The kernel's scores of the seventeen states are the best scores. -/
theorem score_at (he : ∀ t j, rowOf (spread x0) t (ix3 0 ⟨j.val, by omega⟩ b) = e t j)
    (htr : ∀ i j : Fin 17, x1 (ix3 i ⟨j.val, by omega⟩ b) = tr i j) (hst : ∀ j : Fin 17, x2 (ix2 ⟨j.val, by omega⟩ b) = st j) :
    ∀ t (j : Fin 17), score x0 x1 x2 t (ix2 ⟨j.val, by omega⟩ b) = Cert.Viterbi.score e tr st t j
  | 0, j => by
    rw [Cert.Viterbi.score, ← he, ← hst]
    pointwise [score]
  | t + 1, j => by
    have h := (step_at (colOf x1) (rowOf (spread x0) (t + 1)) (score x0 x1 x2 t) ⟨j.val, by omega⟩ b)
    have hf : (fun i : Fin 17 => score x0 x1 x2 t (ix2 ⟨i.val, by omega⟩ b) + colOf x1 i (ix3 0 ⟨j.val, by omega⟩ b)
        + rowOf (spread x0) (t + 1) (ix3 0 ⟨j.val, by omega⟩ b))
        = fun i => tr i j + Cert.Viterbi.score e tr st t i + e (t + 1) j := funext fun i => by
      rw [score_at he htr hst t i, he, ← htr, add_comm (x1 _)]
      rfl
    rw [hf] at h
    exact h.all.1

/-- Its back-pointers are the model's. -/
theorem back_at (he : ∀ t j, rowOf (spread x0) t (ix3 0 ⟨j.val, by omega⟩ b) = e t j)
    (htr : ∀ i j : Fin 17, x1 (ix3 i ⟨j.val, by omega⟩ b) = tr i j) (hst : ∀ j : Fin 17, x2 (ix2 ⟨j.val, by omega⟩ b) = st j)
    (t : ℕ) (j : Fin 17) : back x0 x1 x2 t (ix2 ⟨j.val, by omega⟩ b) = BitVec.ofNat 32 (Cert.Viterbi.back e tr st t j).val := by
  have h := (step_at (colOf x1) (rowOf (spread x0) (t + 1)) (score x0 x1 x2 t) ⟨j.val, by omega⟩ b)
  have hf : (fun i : Fin 17 => score x0 x1 x2 t (ix2 ⟨i.val, by omega⟩ b) + colOf x1 i (ix3 0 ⟨j.val, by omega⟩ b)
      + rowOf (spread x0) (t + 1) (ix3 0 ⟨j.val, by omega⟩ b))
      = fun i => tr i j + Cert.Viterbi.score e tr st t i + e (t + 1) j := funext fun i => by
    rw [score_at x0 x1 x2 b e tr st he htr hst t i, he, ← htr, add_comm (x1 _)]
    rfl
  rw [hf] at h
  exact h.all.2

/-- Its path backwards is the best path. -/
theorem tagBack_at (he : ∀ t j, rowOf (spread x0) t (ix3 0 ⟨j.val, by omega⟩ b) = e t j)
    (htr : ∀ i j : Fin 17, x1 (ix3 i ⟨j.val, by omega⟩ b) = tr i j) (hst : ∀ j : Fin 17, x2 (ix2 ⟨j.val, by omega⟩ b) = st j)
    (het : ∀ j : Fin 17, (Scalar.ofBits .f32 (endBits j.val) : Ideal .f32) = et j) :
    ∀ k, tagBack x0 x1 x2 k (ix2 0 b) = BitVec.ofNat 32 (Cert.Viterbi.tag e tr st et k).val
  | 0 => (lastBest_at (score x0 x1 x2 1023) b (fun i => Cert.Viterbi.score e tr st 1023 i + et i) (fun i => by
      rw [score_at x0 x1 x2 b e tr st he htr hst, het]) 16 (by omega)).all.2
  | k + 1 => pick_at _ _ b _ _ (tagBack_at he htr hst het k) (back_at x0 x1 x2 b e tr st he htr hst _ _)

/-- Its labels are the best path's. -/
theorem labels_at (he : ∀ t j, rowOf (spread x0) t (ix3 0 ⟨j.val, by omega⟩ b) = e t j)
    (htr : ∀ i j : Fin 17, x1 (ix3 i ⟨j.val, by omega⟩ b) = tr i j) (hst : ∀ j : Fin 17, x2 (ix2 ⟨j.val, by omega⟩ b) = st j)
    (het : ∀ j : Fin 17, (Scalar.ofBits .f32 (endBits j.val) : Ideal .f32) = et j) (t : Fin 1024) :
    labels x0 x1 x2 (ix2 b t) = Cert.Viterbi.label (Cert.Viterbi.tag e tr st et (1023 - t.val)) :=
  label_at _ t b _ (tagBack_at x0 x1 x2 b e tr st et he htr hst het (1023 - t.val))

end Run

end Cert.KernelIdeal.Model

end
-- ==== Proof.Spec.lean ====
/-
  The problem's own tables, as the reference lists them, and the labels that Viterbi decoding with them gives.
-/
module

public import proofs.«01_k».proof.ReferenceIdeal
public import proofs.«01_k».proof.Proof.Model

@[expose] public section

noncomputable section

namespace Cert.Viterbi

open Idealize.ShloMosaic

/-- The transition score from state `i` to state `j`. -/
def trans (i j : Fin 17) : EReal := (FloatOps.ofBits .f32 (Cert.ReferenceIdeal.lit1 ⟨i.val * 17 + j.val, by omega⟩) : Ideal .f32)

/-- The score of starting in state `j`. -/
def start (j : Fin 17) : EReal := (FloatOps.ofBits .f32 (Cert.ReferenceIdeal.lit2 j) : Ideal .f32)

/-- The score of ending in state `j`. -/
def stop (j : Fin 17) : EReal := (FloatOps.ofBits .f32 (Cert.ReferenceIdeal.lit3 j) : Ideal .f32)

/-- The label at time `t` of the best path through the emissions `x` of one sequence. -/
def answer (x : Fin 4 → Fin 1024 → EReal) (t : Fin 1024) : BitVec 32 := label (tag (emit x) trans start stop (1023 - t.val))

end Cert.Viterbi
-- ==== Proof.KI.Tables.lean ====
/-
  The kernel's tables of scores hold the problem's, each repeated along the sequences.
-/
module

public import proofs.«01_k».proof.Proof.KI.Vec
public import proofs.«01_k».proof.Proof.Spec

@[expose] public section

set_option maxRecDepth 100000

noncomputable section

namespace Cert.KernelIdeal.Model

open Cert.KernelIdeal
open Idealize.ShloMosaic Idealize.ShloMosaic.Pointwise

/-- The first two rows of the transition table: one repeats −100, the other 0. -/
theorem rows_const : ∀ b : Fin 128, lit0t0_0 b.val = 0xC2C80000#32 ∧ lit0t0_1 b.val = 0#32 := by decide +kernel

set_option maxHeartbeats 4000000 in
/-- Every row of the transition table is one of those two, as the problem's transition is −100 or 0. -/
theorem row_eq (x : ℕ) : ∀ i j : Fin 17, x / 16384 = (i.val * 24 + j.val) / 128 → x / 128 % 128 = (i.val * 24 + j.val) % 128 →
    lit0t x = (if Cert.ReferenceIdeal.lit1 ⟨i.val * 17 + j.val, by omega⟩ = 0#32 then lit0t0_1 x else lit0t0_0 x) := by
  unfold lit0t lit0t1_0 lit0t1_1 lit0t1_2 lit0t1_3
  generalize x / 16384 = p
  generalize x / 128 % 128 = q
  rintro i j rfl rfl
  fin_cases i <;> fin_cases j <;> rfl

/-- The problem's transitions are −100 or 0. -/
theorem trans_bits : ∀ k : Fin 289, Cert.ReferenceIdeal.lit1 k = 0#32 ∨ Cert.ReferenceIdeal.lit1 k = 0xC2C80000#32 := by decide +kernel

/-- An entry of the transition table. -/
theorem trans_word (i j : Fin 17) (b : Fin 128) : lit0t ((i.val * 24 + j.val) * 128 + b.val)
    = Cert.ReferenceIdeal.lit1 ⟨i.val * 17 + j.val, by omega⟩ := by
  have hm : ((i.val * 24 + j.val) * 128 + b.val) % 128 = b.val % 128 := by omega
  have h0 : lit0t0_0 ((i.val * 24 + j.val) * 128 + b.val) = lit0t0_0 b.val := by
    unfold lit0t0_0
    rw [hm]
  have h1 : lit0t0_1 ((i.val * 24 + j.val) * 128 + b.val) = lit0t0_1 b.val := by
    unfold lit0t0_1
    rw [hm]
  rw [row_eq _ i j (by omega) (by omega), h0, h1, (rows_const b).1, (rows_const b).2]
  rcases trans_bits ⟨i.val * 17 + j.val, by omega⟩ with h | h
  · rw [if_pos h, h]
  · rw [if_neg (by rw [h]; decide), h]

/-- An entry of the table of start scores. -/
theorem start_word : ∀ j : Fin 17, ∀ b : Fin 128, lit1t (j.val * 128 + b.val) = Cert.ReferenceIdeal.lit2 j := by decide +kernel

/-- The words of the end scores. -/
theorem end_word : ∀ j : Fin 17, endBits j.val = Cert.ReferenceIdeal.lit3 j := by decide +kernel

/-- The transition table at the ideal values. -/
theorem trans_at (i j : Fin 17) (b : Fin 128) :
    (FloatOps.ofBits .f32 (lit0 (S17x24x128.rowMajor (ix3 i ⟨j.val, by omega⟩ b))) : Ideal .f32) = Cert.Viterbi.trans i j := by
  have h : (S17x24x128.rowMajor (ix3 i ⟨j.val, by omega⟩ b)).val = (i.val * 24 + j.val) * 128 + b.val :=
    Shape.rowMajor_val_three _
  rw [show lit0 (S17x24x128.rowMajor (ix3 i ⟨j.val, by omega⟩ b)) = lit0t (S17x24x128.rowMajor (ix3 i ⟨j.val, by omega⟩ b)).val from rfl, h,
    trans_word]
  rfl

/-- The start scores at the ideal values. -/
theorem start_at (j : Fin 17) (b : Fin 128) :
    (FloatOps.ofBits .f32 (lit1 (S24x128.rowMajor (ix2 ⟨j.val, by omega⟩ b))) : Ideal .f32) = Cert.Viterbi.start j := by
  have h : (S24x128.rowMajor (ix2 ⟨j.val, by omega⟩ b)).val = j.val * 128 + b.val :=
    Shape.rowMajor_val_two _
  rw [show lit1 (S24x128.rowMajor (ix2 ⟨j.val, by omega⟩ b)) = lit1t (S24x128.rowMajor (ix2 ⟨j.val, by omega⟩ b)).val from rfl, h,
    start_word]
  rfl

/-- The end scores at the ideal values. -/
theorem stop_at (j : Fin 17) : (Scalar.ofBits .f32 (endBits j.val) : Ideal .f32) = Cert.Viterbi.stop j := by
  rw [end_word]
  rfl

end Cert.KernelIdeal.Model

end
-- ==== Proof.KI.Answer.lean ====
/-
  The kernel's result array: the label of every time of every sequence, as Viterbi decoding says.
-/
module

public import proofs.«01_k».proof.Proof.KI.Run
public import proofs.«01_k».proof.Proof.KI.Value
public import proofs.«01_k».proof.Proof.KI.Tables
public import Idealize.ShloMosaic.Lib.StableHlo.RunRead

@[expose] public section

set_option maxRecDepth 16384

noncomputable section

namespace Cert.KernelIdeal.Model

open Cert.KernelIdeal Cert.KernelIdeal.Gen
open Idealize.ShloMosaic Idealize.ShloMosaic.TcCoe Idealize.ShloMosaic.Pointwise Idealize.ShloMosaic.StableHlo

variable (m : (ℓ : Loc nD τ sig) → Buf (Elt Ideal) ℓ)

/-- The kernel is handed the emissions with the time first and the sequence last. -/
theorem V_em (c : Dev nD) (t : Fin 1024) (k : Fin 4) (b : Fin 128) :
    V m c main_call0_v0 (ix3 t k b) = m ((c.tc : Thread nD τ).loc main_arg0) (ix3 b k t) := by
  have h : V m c main_call0_v0 = transpose S1024x4x128 [2, 1, 0] (m ((c.tc : Thread nD τ).loc main_arg0)) transposes_S128x4x1024_S1024x4x128_2_1_0 := by
    unfold V
    after_results
    rfl
  rw [h]
  pointwise

/-- The transition table. -/
theorem V_tr (c : Dev nD) : V m c main_call0_cst = fun i => (FloatOps.ofBits .f32 (lit0 (S17x24x128.rowMajor i)) : Ideal .f32) := by
  unfold V
  after_results
  rfl

/-- The table of start scores. -/
theorem V_st (c : Dev nD) : V m c main_call0_cst_0 = fun i => (FloatOps.ofBits .f32 (lit1 (S24x128.rowMajor i)) : Ideal .f32) := by
  unfold V
  after_results
  rfl

/-- Sequence `b` of the kernel's result holds the labels of its best path. -/
theorem result_at (c : Dev nD) (b : Fin 128) (t : Fin 1024) :
    Body.result m c (ix2 b t) = Cert.Viterbi.answer (fun k s => m ((c.tc : Thread nD τ).loc main_arg0) (ix3 b k s)) t :=
  labels_at _ _ _ b _ Cert.Viterbi.trans Cert.Viterbi.start Cert.Viterbi.stop (fun s j => V_em m c _ _ b)
    (fun i j => (congrFun (V_tr m c) _).trans (trans_at i j b)) (fun j => (congrFun (V_st m c) _).trans (start_at j b)) stop_at t

end Cert.KernelIdeal.Model

end
-- ==== Proof.Ref.Ops.lean ====
/-
  The reference's @main as lists of host operations: before the forward loop, one forward step, between the
  loops, one backward step, after the backward loop. Each list comes with the facts a run asks of it: it touches
  TensorCore buffers only, it allocates none, and which buffers it writes.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

set_option maxRecDepth 16384

noncomputable section

namespace Cert.Ref

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- Before the forward loop: the tables, the emissions by state, the first scores and the loop's starting values. -/
abbrev fwdEntry : List (HloOp τ sig (Elt F)) :=
  [ StableHlo.nullary main_c (fun i => lit0 (S17.rowMajor i)),
    StableHlo.nullary main_cst (fun i => FloatOps.ofBits .f32 (lit1 (S17x17.rowMajor i))),
    StableHlo.nullary main_cst_0 (fun i => FloatOps.ofBits .f32 (lit2 (S17.rowMajor i))),
    StableHlo.nullary main_cst_1 (fun i => FloatOps.ofBits .f32 (lit3 (S17.rowMajor i))),
    StableHlo.nullary main_c_2 (fun i => lit4 (S17.rowMajor i)),
    StableHlo.nullary main_c_3 (constantI S17 1 0#1),
    StableHlo.unary main_arg1 main_v0 ((transpose S1024x128 [1, 0] · transposes_S128x1024_S1024x128_1_0) : (⟨S128x1024, .i1⟩ : BufTy).Contents (Elt F) → (⟨S1024x128, .i1⟩ : BufTy).Contents (Elt F)),
    StableHlo.unary main_arg0 main_v1 ((transpose S1024x128x4 [2, 0, 1] · transposes_S128x4x1024_S1024x128x4_2_0_1) : (⟨S128x4x1024, .f32⟩ : BufTy).Contents (Elt F) → (⟨S1024x128x4, .f32⟩ : BufTy).Contents (Elt F)),
    StableHlo.nullary main_c_4 (constantI S_ 32 4#32),
    StableHlo.unary main_c_4 main_v2 (broadcastInDim S17 ![] bcast_S_S17 : (⟨S_, .i32⟩ : BufTy).Contents (Elt F) → (⟨S17, .i32⟩ : BufTy).Contents (Elt F)),
    StableHlo.binary main_c_2 main_v2 main_v3 (addi : (⟨S17, .i32⟩ : BufTy).Contents (Elt F) → (⟨S17, .i32⟩ : BufTy).Contents (Elt F) → (⟨S17, .i32⟩ : BufTy).Contents (Elt F)),
    StableHlo.ternary main_c_3 main_v3 main_c_2 main_v4 (select : (⟨S17, .i1⟩ : BufTy).Contents (Elt F) → (⟨S17, .i32⟩ : BufTy).Contents (Elt F) → (⟨S17, .i32⟩ : BufTy).Contents (Elt F) → (⟨S17, .i32⟩ : BufTy).Contents (Elt F)),
    StableHlo.unary main_v4 main_v5 (broadcastInDim S17x1 ![0] bcast_S17_S17x1_0 : (⟨S17, .i32⟩ : BufTy).Contents (Elt F) → (⟨S17x1, .i32⟩ : BufTy).Contents (Elt F)),
    StableHlo.binary main_v1 main_v5 main_v6 ((fun x i => Host.gather gather_S1024x128x4_S17x1_S1024x128x17_01_2_n_n_2_1_10241281 x i) : (⟨S1024x128x4, .f32⟩ : BufTy).Contents (Elt F) → (⟨S17x1, .i32⟩ : BufTy).Contents (Elt F) → (⟨S1024x128x17, .f32⟩ : BufTy).Contents (Elt F)),
    StableHlo.unary main_v6 main_v7 ((extractStridedSlice S1x128x17 ![0, 0, 0] · slices_S1024x128x17_S1x128x17_0_0_0) : (⟨S1024x128x17, .f32⟩ : BufTy).Contents (Elt F) → (⟨S1x128x17, .f32⟩ : BufTy).Contents (Elt F)),
    StableHlo.reshape main_v7 main_v8 (rfl : (.f32 : EltTy) = .f32) shapeCasts_S1x128x17_S128x17,
    StableHlo.unary main_cst_0 main_v9 (broadcastInDim S1x17 ![1] bcast_S17_S1x17_1 : (⟨S17, .f32⟩ : BufTy).Contents (Elt F) → (⟨S1x17, .f32⟩ : BufTy).Contents (Elt F)),
    StableHlo.unary main_v9 main_v10 (broadcastInDim S128x17 ![0, 1] bcast_S1x17_S128x17_0_1 : (⟨S1x17, .f32⟩ : BufTy).Contents (Elt F) → (⟨S128x17, .f32⟩ : BufTy).Contents (Elt F)),
    StableHlo.binary main_v10 main_v8 main_v11 (addf : (⟨S128x17, .f32⟩ : BufTy).Contents (Elt F) → (⟨S128x17, .f32⟩ : BufTy).Contents (Elt F) → (⟨S128x17, .f32⟩ : BufTy).Contents (Elt F)),
    StableHlo.unary main_v6 main_v12 ((extractStridedSlice S1023x128x17 ![1, 0, 0] · slices_S1024x128x17_S1023x128x17_1_0_0) : (⟨S1024x128x17, .f32⟩ : BufTy).Contents (Elt F) → (⟨S1023x128x17, .f32⟩ : BufTy).Contents (Elt F)),
    StableHlo.unary main_v0 main_v13 ((extractStridedSlice S1023x128 ![1, 0] · slices_S1024x128_S1023x128_1_0) : (⟨S1024x128, .i1⟩ : BufTy).Contents (Elt F) → (⟨S1023x128, .i1⟩ : BufTy).Contents (Elt F)),
    StableHlo.nullary main_c_5 (constantI S_ 32 0#32),
    StableHlo.unary main_c_5 main_v14 (broadcastInDim S1023x128x17 ![] bcast_S_S1023x128x17 : (⟨S_, .i32⟩ : BufTy).Contents (Elt F) → (⟨S1023x128x17, .i32⟩ : BufTy).Contents (Elt F)),
    StableHlo.nullary main_c_6 (constantI S_ 32 0#32),
    StableHlo.unary main_v12 main_v15_0 id,
    StableHlo.unary main_v13 main_v15_1 id,
    StableHlo.unary main_cst main_v15_2 id,
    StableHlo.unary main_c_6 main_v15_3 id,
    StableHlo.unary main_v11 main_v15_4 id,
    StableHlo.unary main_v14 main_v15_5 id ]
theorem fwdEntry_sub : (fwdEntry : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.nullary_bufs_sub .., StableHlo.nullary_bufs_sub .., StableHlo.unary_bufs_sub .., StableHlo.unary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
theorem fwdEntry_fresh : (fwdEntry : List (HloOp τ sig (Elt F))).Forall fun op => op.fresh = ∅ :=
  StableHlo.forall_fresh_of_map rfl
abbrev fwdEntry_W : List (Ref sig .tc) := [main_c, main_cst, main_cst_0, main_cst_1, main_c_2, main_c_3, main_v0, main_v1, main_c_4, main_v2, main_v3, main_v4, main_v5, main_v6, main_v7, main_v8, main_v9, main_v10, main_v11, main_v12, main_v13, main_c_5, main_v14, main_c_6, main_v15_0, main_v15_1, main_v15_2, main_v15_3, main_v15_4, main_v15_5]
theorem fwdEntry_writes : (fwdEntry : List (HloOp τ sig (Elt F))).Forall fun op => op.writes ⊆ (fwdEntry_W.map (Proc.devRef (τ := τ) .tc)).toFinset :=
  StableHlo.forall_writes_sub_of_map rfl

/-- Forward step: the step's emissions. -/
abbrev fwdEm : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v15_0 : StableHlo.TRef sig ⟨S1023x128x17, .f32⟩) ![(.of main_v15_3 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x128x17, .f32⟩) (fun x i => Host.dynamicSlice S1x128x17 x (fun k => (i k (Shape.Idx.first h_S_)).toInt) sliceFits_S1023x128x17_S1x128x17),
    StableHlo.TRef.reshape (.of main_while0b_call0_v0 : StableHlo.TRef sig ⟨S1x128x17, .f32⟩) (.of main_while0b_v49 : StableHlo.TRef sig ⟨S128x17, .f32⟩) (rfl : (.f32 : EltTy) = .f32) shapeCasts_S1x128x17_S128x17 ]
theorem fwdEm_sub : (fwdEm : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem fwdEm_fresh : (fwdEm : List (HloOp τ sig (Elt F))).Forall fun op => op.fresh = ∅ :=
  StableHlo.forall_fresh_of_map rfl
abbrev fwdEm_W : List (Ref sig .tc) := [main_while0b_call0_c, main_while0b_call0_c_0, main_while0b_call0_v0, main_while0b_v49]
theorem fwdEm_writes : (fwdEm : List (HloOp τ sig (Elt F))).Forall fun op => op.writes ⊆ (fwdEm_W.map (Proc.devRef (τ := τ) .tc)).toFinset :=
  StableHlo.forall_writes_sub_of_map rfl

/-- Forward step: the step's mask. -/
abbrev fwdMask : List (HloOp τ sig (Elt F)) :=
  [ StableHlo.TRef.nullary (.of main_while0b_call1_c : StableHlo.TRef sig ⟨S_, .i32⟩) (constantI S_ 32 0#32),
    StableHlo.TRef.unaryIndexed (.of main_v15_1 : StableHlo.TRef sig ⟨S1023x128, .i1⟩) ![(.of main_v15_3 : StableHlo.TRef sig ⟨S_, .i32⟩), (.of main_while0b_call1_c : StableHlo.TRef sig ⟨S_, .i32⟩)] (.of main_while0b_call1_v0 : StableHlo.TRef sig ⟨S1x128, .i1⟩) (fun x i => Host.dynamicSlice S1x128 x (fun k => (i k (Shape.Idx.first h_S_)).toInt) sliceFits_S1023x128_S1x128),
    StableHlo.TRef.reshape (.of main_while0b_call1_v0 : StableHlo.TRef sig ⟨S1x128, .i1⟩) (.of main_while0b_v50 : StableHlo.TRef sig ⟨S128, .i1⟩) (rfl : (.i1 : EltTy) = .i1) shapeCasts_S1x128_S128 ]
theorem fwdMask_sub : (fwdMask : List (HloOp τ sig (Elt F))).Forall fun op => op.bufs ⊆ StableHlo.tcRefs τ sig :=
  ⟨StableHlo.nullary_bufs_sub .., StableHlo.unaryIndexed_bufs_sub .., StableHlo.reshape_bufs_sub ..⟩
theorem fwdMask_fresh : (fwdMask : List (HloOp τ sig (Elt F))).Forall fun op => op.fresh = ∅ :=
  StableHlo.forall_fresh_of_map rfl
abbrev fwdMask_W : List (Ref sig .tc) := [main_while0b_call1_c, main_while0b_call1_v0, main_while0b_v50]
theorem fwdMask_writes : (fwdMask : List (HloOp τ sig (Elt F))).Forall fun op => op.writes ⊆ (fwdMask_W.map (Proc.devRef (τ := τ) .tc)).toFinset :=
  StableHlo.forall_writes_sub_of_map rfl

/-- Forward step: the candidate scores, transition plus score plus emission. -/
abbrev fwdCand : List (HloOp τ sig (Elt F)) :=
  [ StableHlo.unary main_v15_2 main_while0b_v51 (broadcastInDim S1x17x17 ![1, 2] bcast_S17x17_S1x17x17_1_2 : (⟨S17x17, .f32⟩ : BufTy).Contents (Elt F) → (⟨S1x17x17, .f32⟩ : BufTy).Contents (Elt F)),
    StableHlo.unary main_v15_4 main_while0b_v52 (broadcastInDim S128x17x1 ![0, 1] bcast_S128x17_S128x17x1_0_1 : (⟨S128x17, .f32⟩ : BufTy).Contents (Elt F) → (⟨S128x17x1, .f32⟩ : BufTy).Contents (Elt F)),
    StableHlo.unary main_while0b_v51 main_while0b_v53 (broadcastInDim S128x17x17 ![0, 1, 2] bcast_S1x17x17_S128x17x17_0_1_2 : (⟨S1x17x17, .f32⟩ : BufTy).Contents (Elt F) → (⟨S128x17x17, .f32⟩ : BufTy).Contents (Elt F)),
    StableHlo.unary main_while0b_v52 main_while0b_v54 (broadcastInDim S128x17x17 ![0, 1, 2] bcast_S128x17x1_S128x17x17_0_1_2 : (⟨S128x17x1, .f32⟩ : BufTy).Contents (Elt F) → (⟨S128x17x17, .f32⟩ : BufTy).Contents (Elt F)),
    StableHlo.binary main_while0b_v53 main_while0b_v54 main_while0b_v55 (addf : (⟨S128x17x17, .f32⟩ : BufTy).Contents (Elt F) → (⟨S128x17x17, .f32⟩ : BufTy).Contents (Elt F) → (⟨S128x17x17, .f32⟩ : BufTy).Contents (Elt F)),
    StableHlo.unary main_while0b_v49 main_while0b_v56 (broadcastInDim S128x1x17 ![0, 2] bcast_S128x17_S128x1x17_0_2 : (⟨S128x17, .f32⟩ : BufTy).Contents (Elt F) → (⟨S128x1x17, .f32⟩ : BufTy).Contents (Elt F)),
    StableHlo.unary main_while0b_v56 main_while0b_v57 (broadcastInDim S128x17x17 ![0, 1, 2] bcast_S128x1x17_S128x17x17_0_1_2 : (⟨S128x1x17, .f32⟩ : BufTy).Contents (Elt F) → (⟨S128x17x17, .f32⟩ : BufTy).Contents (Elt F)),
    StableHlo.binary main_while0b_v55 main_while0b_v57 main_while0b_v58 (addf : (⟨S128x17x17, .f32⟩ : BufTy).Contents (Elt F) → (⟨S128x17x17, .f32⟩ : BufTy).Contents (Elt F) → (⟨S128x17x17, .f32⟩ : BufTy).Contents (Elt F)) ]
theorem fwdCand_sub : (fwdCand : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub ..⟩
theorem fwdCand_fresh : (fwdCand : List (HloOp τ sig (Elt F))).Forall fun op => op.fresh = ∅ :=
  StableHlo.forall_fresh_of_map rfl
abbrev fwdCand_W : List (Ref sig .tc) := [main_while0b_v51, main_while0b_v52, main_while0b_v53, main_while0b_v54, main_while0b_v55, main_while0b_v56, main_while0b_v57, main_while0b_v58]
theorem fwdCand_writes : (fwdCand : List (HloOp τ sig (Elt F))).Forall fun op => op.writes ⊆ (fwdCand_W.map (Proc.devRef (τ := τ) .tc)).toFinset :=
  StableHlo.forall_writes_sub_of_map rfl

/-- Forward step: the best previous state. -/
abbrev fwdArg : List (HloOp τ sig (Elt F)) :=
  [ StableHlo.TRef.nullary (.of main_while0b_call2_v0 : StableHlo.TRef sig ⟨S128x17x17, .i32⟩) (iotaInDim S128x17x17 32 1),
    StableHlo.TRef.nullary (.of main_while0b_call2_cst : StableHlo.TRef sig ⟨S_, .f32⟩) (constant S_ .f32 0xFF800000#32),
    StableHlo.TRef.nullary (.of main_while0b_call2_c : StableHlo.TRef sig ⟨S_, .i32⟩) (constantI S_ 32 0#32),
    StableHlo.TRef.quaternary (.of main_while0b_v58 : StableHlo.TRef sig ⟨S128x17x17, .f32⟩) (.of main_while0b_call2_v0 : StableHlo.TRef sig ⟨S128x17x17, .i32⟩) (.of main_while0b_call2_cst : StableHlo.TRef sig ⟨S_, .f32⟩) (.of main_while0b_call2_c : StableHlo.TRef sig ⟨S_, .i32⟩) (.of main_while0b_call2_v1_0 : StableHlo.TRef sig ⟨S128x17, .f32⟩) (fun x y u v j => (Host.argReduce reducer_argmax_f32_i32 x y u v reducesTo_S128x17x17_S128x17_d1 h_S_ j).1),
    StableHlo.TRef.quaternary (.of main_while0b_v58 : StableHlo.TRef sig ⟨S128x17x17, .f32⟩) (.of main_while0b_call2_v0 : StableHlo.TRef sig ⟨S128x17x17, .i32⟩) (.of main_while0b_call2_cst : StableHlo.TRef sig ⟨S_, .f32⟩) (.of main_while0b_call2_c : StableHlo.TRef sig ⟨S_, .i32⟩) (.of main_while0b_v59 : StableHlo.TRef sig ⟨S128x17, .i32⟩) (fun x y u v j => (Host.argReduce reducer_argmax_f32_i32 x y u v reducesTo_S128x17x17_S128x17_d1 h_S_ j).2) ]
theorem fwdArg_sub : (fwdArg : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
theorem fwdArg_fresh : (fwdArg : List (HloOp τ sig (Elt F))).Forall fun op => op.fresh = ∅ :=
  StableHlo.forall_fresh_of_map rfl
abbrev fwdArg_W : List (Ref sig .tc) := [main_while0b_call2_v0, main_while0b_call2_cst, main_while0b_call2_c, main_while0b_call2_v1_0, main_while0b_v59]
theorem fwdArg_writes : (fwdArg : List (HloOp τ sig (Elt F))).Forall fun op => op.writes ⊆ (fwdArg_W.map (Proc.devRef (τ := τ) .tc)).toFinset :=
  StableHlo.forall_writes_sub_of_map rfl

/-- Forward step: the best candidate score. -/
abbrev fwdMax : List (HloOp τ sig (Elt F)) :=
  [ StableHlo.nullary main_while0b_cst_22 (constant S_ .f32 0xFF800000#32),
    StableHlo.binary main_while0b_v58 main_while0b_cst_22 main_while0b_v60 ((fun x v => Host.reduce FloatOps.maximumf x v reducesTo_S128x17x17_S128x17_d1 h_S_) : (⟨S128x17x17, .f32⟩ : BufTy).Contents (Elt F) → (⟨S_, .f32⟩ : BufTy).Contents (Elt F) → (⟨S128x17, .f32⟩ : BufTy).Contents (Elt F)),
    StableHlo.unary main_while0b_v50 main_while0b_v61 (broadcastInDim S128x1 ![0] bcast_S128_S128x1_0 : (⟨S128, .i1⟩ : BufTy).Contents (Elt F) → (⟨S128x1, .i1⟩ : BufTy).Contents (Elt F)) ]
theorem fwdMax_sub : (fwdMax : List (HloOp τ sig (Elt F))).Forall fun op => op.bufs ⊆ StableHlo.tcRefs τ sig :=
  ⟨StableHlo.nullary_bufs_sub .., StableHlo.binary_bufs_sub .., StableHlo.unary_bufs_sub ..⟩
theorem fwdMax_fresh : (fwdMax : List (HloOp τ sig (Elt F))).Forall fun op => op.fresh = ∅ :=
  StableHlo.forall_fresh_of_map rfl
abbrev fwdMax_W : List (Ref sig .tc) := [main_while0b_cst_22, main_while0b_v60, main_while0b_v61]
theorem fwdMax_writes : (fwdMax : List (HloOp τ sig (Elt F))).Forall fun op => op.writes ⊆ (fwdMax_W.map (Proc.devRef (τ := τ) .tc)).toFinset :=
  StableHlo.forall_writes_sub_of_map rfl

/-- Forward step: the new scores where the mask is set, else the old ones. -/
abbrev fwdSel : List (HloOp τ sig (Elt F)) :=
  [ StableHlo.TRef.unary (.of main_while0b_v61 : StableHlo.TRef sig ⟨S128x1, .i1⟩) (.of main_while0b_call3_v0 : StableHlo.TRef sig ⟨S128x17, .i1⟩) (broadcastInDim S128x17 ![0, 1] bcast_S128x1_S128x17_0_1),
    StableHlo.TRef.ternary (.of main_while0b_call3_v0 : StableHlo.TRef sig ⟨S128x17, .i1⟩) (.of main_while0b_v60 : StableHlo.TRef sig ⟨S128x17, .f32⟩) (.of main_v15_4 : StableHlo.TRef sig ⟨S128x17, .f32⟩) (.of main_while0b_v62 : StableHlo.TRef sig ⟨S128x17, .f32⟩) select ]
theorem fwdSel_sub : (fwdSel : List (HloOp τ sig (Elt F))).Forall fun op => op.bufs ⊆ StableHlo.tcRefs τ sig :=
  ⟨StableHlo.unary_bufs_sub .., StableHlo.ternary_bufs_sub ..⟩
theorem fwdSel_fresh : (fwdSel : List (HloOp τ sig (Elt F))).Forall fun op => op.fresh = ∅ :=
  StableHlo.forall_fresh_of_map rfl
abbrev fwdSel_W : List (Ref sig .tc) := [main_while0b_call3_v0, main_while0b_v62]
theorem fwdSel_writes : (fwdSel : List (HloOp τ sig (Elt F))).Forall fun op => op.writes ⊆ (fwdSel_W.map (Proc.devRef (τ := τ) .tc)).toFinset :=
  StableHlo.forall_writes_sub_of_map rfl

/-- Forward step: the best previous states into the history. -/
abbrev fwdStore : List (HloOp τ sig (Elt F)) :=
  [ StableHlo.TRef.unary (.of main_while0b_v59 : StableHlo.TRef sig ⟨S128x17, .i32⟩) (.of main_while0b_call4_v0 : StableHlo.TRef sig ⟨S1x128x17, .i32⟩) (broadcastInDim S1x128x17 ![1, 2] bcast_S128x17_S1x128x17_1_2),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.binaryIndexed (.of main_v15_5 : StableHlo.TRef sig ⟨S1023x128x17, .i32⟩) (.of main_while0b_call4_v0 : StableHlo.TRef sig ⟨S1x128x17, .i32⟩) ![(.of main_v15_3 : StableHlo.TRef sig ⟨S_, .i32⟩), (.of main_while0b_call4_c : StableHlo.TRef sig ⟨S_, .i32⟩), (.of main_while0b_call4_c_0 : StableHlo.TRef sig ⟨S_, .i32⟩)] (.of main_while0b_v63 : StableHlo.TRef sig ⟨S1023x128x17, .i32⟩) (fun x u i => Host.dynamicUpdateSlice x u (fun k => (i k (Shape.Idx.first h_S_)).toInt) updateFits_S1023x128x17_S1x128x17) ]
theorem fwdStore_sub : (fwdStore : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem fwdStore_fresh : (fwdStore : List (HloOp τ sig (Elt F))).Forall fun op => op.fresh = ∅ :=
  StableHlo.forall_fresh_of_map rfl
abbrev fwdStore_W : List (Ref sig .tc) := [main_while0b_call4_v0, main_while0b_call4_c, main_while0b_call4_c_0, main_while0b_v63]
theorem fwdStore_writes : (fwdStore : List (HloOp τ sig (Elt F))).Forall fun op => op.writes ⊆ (fwdStore_W.map (Proc.devRef (τ := τ) .tc)).toFinset :=
  StableHlo.forall_writes_sub_of_map rfl

/-- Forward step: the counter, the scores and the history for the next step. -/
abbrev fwdNext : List (HloOp τ sig (Elt F)) :=
  [ StableHlo.nullary main_while0b_c_23 (constantI S_ 32 1#32),
    StableHlo.binary main_v15_3 main_while0b_c_23 main_while0b_v64 (addi : (⟨S_, .i32⟩ : BufTy).Contents (Elt F) → (⟨S_, .i32⟩ : BufTy).Contents (Elt F) → (⟨S_, .i32⟩ : BufTy).Contents (Elt F)),
    StableHlo.unary main_while0b_v64 main_v15_3 id,
    StableHlo.unary main_while0b_v62 main_v15_4 id,
    StableHlo.unary main_while0b_v63 main_v15_5 id ]
theorem fwdNext_sub : (fwdNext : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
theorem fwdNext_fresh : (fwdNext : List (HloOp τ sig (Elt F))).Forall fun op => op.fresh = ∅ :=
  StableHlo.forall_fresh_of_map rfl
abbrev fwdNext_W : List (Ref sig .tc) := [main_while0b_c_23, main_while0b_v64, main_v15_3, main_v15_4, main_v15_5]
theorem fwdNext_writes : (fwdNext : List (HloOp τ sig (Elt F))).Forall fun op => op.writes ⊆ (fwdNext_W.map (Proc.devRef (τ := τ) .tc)).toFinset :=
  StableHlo.forall_writes_sub_of_map rfl

/-- After the forward loop: the history with a last row, and the final scores. -/
abbrev midEnd : List (HloOp τ sig (Elt F)) :=
  [ StableHlo.nullary main_c_7 (constantI S_ 32 0#32),
    StableHlo.unary main_c_7 main_v16 (broadcastInDim S1x128x17 ![] bcast_S_S1x128x17 : (⟨S_, .i32⟩ : BufTy).Contents (Elt F) → (⟨S1x128x17, .i32⟩ : BufTy).Contents (Elt F)),
    StableHlo.binary main_v15_5 main_v16 main_v17 ((fun a b => concatenate S1024x128x17 0 [⟨S1023x128x17, a⟩, ⟨S1x128x17, b⟩] concatenates_S1023x128x17_S1x128x17_S1024x128x17_d0) : (⟨S1023x128x17, .i32⟩ : BufTy).Contents (Elt F) → (⟨S1x128x17, .i32⟩ : BufTy).Contents (Elt F) → (⟨S1024x128x17, .i32⟩ : BufTy).Contents (Elt F)),
    StableHlo.unary main_cst_1 main_v18 (broadcastInDim S1x17 ![1] bcast_S17_S1x17_1 : (⟨S17, .f32⟩ : BufTy).Contents (Elt F) → (⟨S1x17, .f32⟩ : BufTy).Contents (Elt F)),
    StableHlo.unary main_v18 main_v19 (broadcastInDim S128x17 ![0, 1] bcast_S1x17_S128x17_0_1 : (⟨S1x17, .f32⟩ : BufTy).Contents (Elt F) → (⟨S128x17, .f32⟩ : BufTy).Contents (Elt F)),
    StableHlo.binary main_v15_4 main_v19 main_v20 (addf : (⟨S128x17, .f32⟩ : BufTy).Contents (Elt F) → (⟨S128x17, .f32⟩ : BufTy).Contents (Elt F) → (⟨S128x17, .f32⟩ : BufTy).Contents (Elt F)) ]
theorem midEnd_sub : (midEnd : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub ..⟩
theorem midEnd_fresh : (midEnd : List (HloOp τ sig (Elt F))).Forall fun op => op.fresh = ∅ :=
  StableHlo.forall_fresh_of_map rfl
abbrev midEnd_W : List (Ref sig .tc) := [main_c_7, main_v16, main_v17, main_v18, main_v19, main_v20]
theorem midEnd_writes : (midEnd : List (HloOp τ sig (Elt F))).Forall fun op => op.writes ⊆ (midEnd_W.map (Proc.devRef (τ := τ) .tc)).toFinset :=
  StableHlo.forall_writes_sub_of_map rfl

/-- After the forward loop: the best last state. -/
abbrev midArg : List (HloOp τ sig (Elt F)) :=
  [ StableHlo.TRef.nullary (.of main_call5_v0 : StableHlo.TRef sig ⟨S128x17, .i32⟩) (iotaInDim S128x17 32 1),
    StableHlo.TRef.nullary (.of main_call5_cst : StableHlo.TRef sig ⟨S_, .f32⟩) (constant S_ .f32 0xFF800000#32),
    StableHlo.TRef.nullary (.of main_call5_c : StableHlo.TRef sig ⟨S_, .i32⟩) (constantI S_ 32 0#32),
    StableHlo.TRef.quaternary (.of main_v20 : StableHlo.TRef sig ⟨S128x17, .f32⟩) (.of main_call5_v0 : StableHlo.TRef sig ⟨S128x17, .i32⟩) (.of main_call5_cst : StableHlo.TRef sig ⟨S_, .f32⟩) (.of main_call5_c : StableHlo.TRef sig ⟨S_, .i32⟩) (.of main_call5_v1_0 : StableHlo.TRef sig ⟨S128, .f32⟩) (fun x y u v j => (Host.argReduce reducer_argmax_f32_i32 x y u v reducesTo_S128x17_S128_d1 h_S_ j).1),
    StableHlo.TRef.quaternary (.of main_v20 : StableHlo.TRef sig ⟨S128x17, .f32⟩) (.of main_call5_v0 : StableHlo.TRef sig ⟨S128x17, .i32⟩) (.of main_call5_cst : StableHlo.TRef sig ⟨S_, .f32⟩) (.of main_call5_c : StableHlo.TRef sig ⟨S_, .i32⟩) (.of main_v21 : StableHlo.TRef sig ⟨S128, .i32⟩) (fun x y u v j => (Host.argReduce reducer_argmax_f32_i32 x y u v reducesTo_S128x17_S128_d1 h_S_ j).2) ]
theorem midArg_sub : (midArg : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
theorem midArg_fresh : (midArg : List (HloOp τ sig (Elt F))).Forall fun op => op.fresh = ∅ :=
  StableHlo.forall_fresh_of_map rfl
abbrev midArg_W : List (Ref sig .tc) := [main_call5_v0, main_call5_cst, main_call5_c, main_call5_v1_0, main_v21]
theorem midArg_writes : (midArg : List (HloOp τ sig (Elt F))).Forall fun op => op.writes ⊆ (midArg_W.map (Proc.devRef (τ := τ) .tc)).toFinset :=
  StableHlo.forall_writes_sub_of_map rfl

/-- After the forward loop: the number of valid positions of each sequence. -/
abbrev midLen : List (HloOp τ sig (Elt F)) :=
  [ StableHlo.unary main_v0 main_v22 ((extui 32 · natLt_1_32) : (⟨S1024x128, .i1⟩ : BufTy).Contents (Elt F) → (⟨S1024x128, .i32⟩ : BufTy).Contents (Elt F)),
    StableHlo.nullary main_c_8 (constantI S_ 32 0#32),
    StableHlo.binary main_v22 main_c_8 main_v23 ((fun x v => Host.reduce IntOp.addi x v reducesTo_S1024x128_S128_d0 h_S_) : (⟨S1024x128, .i32⟩ : BufTy).Contents (Elt F) → (⟨S_, .i32⟩ : BufTy).Contents (Elt F) → (⟨S128, .i32⟩ : BufTy).Contents (Elt F)),
    StableHlo.nullary main_c_9 (constantI S_ 32 0#32),
    StableHlo.unary main_c_9 main_v24 (broadcastInDim S128 ![] bcast_S_S128 : (⟨S_, .i32⟩ : BufTy).Contents (Elt F) → (⟨S128, .i32⟩ : BufTy).Contents (Elt F)),
    StableHlo.binary main_v23 main_v24 main_v25 (cmpi .sgt : (⟨S128, .i32⟩ : BufTy).Contents (Elt F) → (⟨S128, .i32⟩ : BufTy).Contents (Elt F) → (⟨S128, .i1⟩ : BufTy).Contents (Elt F)),
    StableHlo.nullary main_c_10 (constantI S_ 32 1024#32) ]
theorem midLen_sub : (midLen : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.unary_bufs_sub .., StableHlo.binary_bufs_sub .., StableHlo.nullary_bufs_sub ..⟩
theorem midLen_fresh : (midLen : List (HloOp τ sig (Elt F))).Forall fun op => op.fresh = ∅ :=
  StableHlo.forall_fresh_of_map rfl
abbrev midLen_W : List (Ref sig .tc) := [main_v22, main_c_8, main_v23, main_c_9, main_v24, main_v25, main_c_10]
theorem midLen_writes : (midLen : List (HloOp τ sig (Elt F))).Forall fun op => op.writes ⊆ (midLen_W.map (Proc.devRef (τ := τ) .tc)).toFinset :=
  StableHlo.forall_writes_sub_of_map rfl

/-- After the forward loop: the number of positions a sequence is decoded to. -/
abbrev midWhere : List (HloOp τ sig (Elt F)) :=
  [ StableHlo.TRef.unary (.of main_c_10 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S128, .i32⟩) (broadcastInDim S128 ![] bcast_S_S128),
    StableHlo.TRef.ternary (.of main_v25 : StableHlo.TRef sig ⟨S128, .i1⟩) (.of main_v23 : StableHlo.TRef sig ⟨S128, .i32⟩) (.of main_call6_v1 : StableHlo.TRef sig ⟨S128, .i32⟩) (.of main_v26 : StableHlo.TRef sig ⟨S128, .i32⟩) select ]
theorem midWhere_sub : (midWhere : List (HloOp τ sig (Elt F))).Forall fun op => op.bufs ⊆ StableHlo.tcRefs τ sig :=
  ⟨StableHlo.unary_bufs_sub .., StableHlo.unary_bufs_sub .., StableHlo.ternary_bufs_sub ..⟩
theorem midWhere_fresh : (midWhere : List (HloOp τ sig (Elt F))).Forall fun op => op.fresh = ∅ :=
  StableHlo.forall_fresh_of_map rfl
abbrev midWhere_W : List (Ref sig .tc) := [main_call6_v0, main_call6_v1, main_v26]
theorem midWhere_writes : (midWhere : List (HloOp τ sig (Elt F))).Forall fun op => op.writes ⊆ (midWhere_W.map (Proc.devRef (τ := τ) .tc)).toFinset :=
  StableHlo.forall_writes_sub_of_map rfl

/-- After the forward loop: where each sequence ends. -/
abbrev midAt : List (HloOp τ sig (Elt F)) :=
  [ StableHlo.nullary main_c_11 (constantI S_ 32 1#32),
    StableHlo.unary main_c_11 main_v27 (broadcastInDim S128 ![] bcast_S_S128 : (⟨S_, .i32⟩ : BufTy).Contents (Elt F) → (⟨S128, .i32⟩ : BufTy).Contents (Elt F)),
    StableHlo.binary main_v26 main_v27 main_v28 (subi : (⟨S128, .i32⟩ : BufTy).Contents (Elt F) → (⟨S128, .i32⟩ : BufTy).Contents (Elt F) → (⟨S128, .i32⟩ : BufTy).Contents (Elt F)),
    StableHlo.nullary main_v29 (iotaInDim S1024 32 0),
    StableHlo.unary main_v29 main_v30 (broadcastInDim S1024x1 ![0] bcast_S1024_S1024x1_0 : (⟨S1024, .i32⟩ : BufTy).Contents (Elt F) → (⟨S1024x1, .i32⟩ : BufTy).Contents (Elt F)),
    StableHlo.unary main_v28 main_v31 (broadcastInDim S1x128 ![1] bcast_S128_S1x128_1 : (⟨S128, .i32⟩ : BufTy).Contents (Elt F) → (⟨S1x128, .i32⟩ : BufTy).Contents (Elt F)),
    StableHlo.unary main_v30 main_v32 (broadcastInDim S1024x128 ![0, 1] bcast_S1024x1_S1024x128_0_1 : (⟨S1024x1, .i32⟩ : BufTy).Contents (Elt F) → (⟨S1024x128, .i32⟩ : BufTy).Contents (Elt F)),
    StableHlo.unary main_v31 main_v33 (broadcastInDim S1024x128 ![0, 1] bcast_S1x128_S1024x128_0_1 : (⟨S1x128, .i32⟩ : BufTy).Contents (Elt F) → (⟨S1024x128, .i32⟩ : BufTy).Contents (Elt F)),
    StableHlo.binary main_v32 main_v33 main_v34 (cmpi .eq : (⟨S1024x128, .i32⟩ : BufTy).Contents (Elt F) → (⟨S1024x128, .i32⟩ : BufTy).Contents (Elt F) → (⟨S1024x128, .i1⟩ : BufTy).Contents (Elt F)),
    StableHlo.unary main_v34 main_v35 (broadcastInDim S1024x128x1 ![0, 1] bcast_S1024x128_S1024x128x1_0_1 : (⟨S1024x128, .i1⟩ : BufTy).Contents (Elt F) → (⟨S1024x128x1, .i1⟩ : BufTy).Contents (Elt F)),
    StableHlo.unary main_v21 main_v36 (broadcastInDim S1x128x1 ![1] bcast_S128_S1x128x1_1 : (⟨S128, .i32⟩ : BufTy).Contents (Elt F) → (⟨S1x128x1, .i32⟩ : BufTy).Contents (Elt F)) ]
theorem midAt_sub : (midAt : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub ..⟩
theorem midAt_fresh : (midAt : List (HloOp τ sig (Elt F))).Forall fun op => op.fresh = ∅ :=
  StableHlo.forall_fresh_of_map rfl
abbrev midAt_W : List (Ref sig .tc) := [main_c_11, main_v27, main_v28, main_v29, main_v30, main_v31, main_v32, main_v33, main_v34, main_v35, main_v36]
theorem midAt_writes : (midAt : List (HloOp τ sig (Elt F))).Forall fun op => op.writes ⊆ (midAt_W.map (Proc.devRef (τ := τ) .tc)).toFinset :=
  StableHlo.forall_writes_sub_of_map rfl

/-- After the forward loop: the best last state into the history at each sequence's end. -/
abbrev midHist : List (HloOp τ sig (Elt F)) :=
  [ StableHlo.TRef.unary (.of main_v35 : StableHlo.TRef sig ⟨S1024x128x1, .i1⟩) (.of main_call7_v0 : StableHlo.TRef sig ⟨S1024x128x17, .i1⟩) (broadcastInDim S1024x128x17 ![0, 1, 2] bcast_S1024x128x1_S1024x128x17_0_1_2),
    StableHlo.TRef.unary (.of main_v36 : StableHlo.TRef sig ⟨S1x128x1, .i32⟩) (.of main_call7_v1 : StableHlo.TRef sig ⟨S1024x128x17, .i32⟩) (broadcastInDim S1024x128x17 ![0, 1, 2] bcast_S1x128x1_S1024x128x17_0_1_2),
    StableHlo.TRef.ternary (.of main_call7_v0 : StableHlo.TRef sig ⟨S1024x128x17, .i1⟩) (.of main_call7_v1 : StableHlo.TRef sig ⟨S1024x128x17, .i32⟩) (.of main_v17 : StableHlo.TRef sig ⟨S1024x128x17, .i32⟩) (.of main_v37 : StableHlo.TRef sig ⟨S1024x128x17, .i32⟩) select ]
theorem midHist_sub : (midHist : List (HloOp τ sig (Elt F))).Forall fun op => op.bufs ⊆ StableHlo.tcRefs τ sig :=
  ⟨StableHlo.unary_bufs_sub .., StableHlo.unary_bufs_sub .., StableHlo.ternary_bufs_sub ..⟩
theorem midHist_fresh : (midHist : List (HloOp τ sig (Elt F))).Forall fun op => op.fresh = ∅ :=
  StableHlo.forall_fresh_of_map rfl
abbrev midHist_W : List (Ref sig .tc) := [main_call7_v0, main_call7_v1, main_v37]
theorem midHist_writes : (midHist : List (HloOp τ sig (Elt F))).Forall fun op => op.writes ⊆ (midHist_W.map (Proc.devRef (τ := τ) .tc)).toFinset :=
  StableHlo.forall_writes_sub_of_map rfl

/-- After the forward loop: the backward loop's first state. -/
abbrev midZeros : List (HloOp τ sig (Elt F)) :=
  [ StableHlo.nullary main_c_12 (constantI S_ 32 0#32),
    StableHlo.unary main_c_12 main_v38 (broadcastInDim S128 ![] bcast_S_S128 : (⟨S_, .i32⟩ : BufTy).Contents (Elt F) → (⟨S128, .i32⟩ : BufTy).Contents (Elt F)) ]
theorem midZeros_sub : (midZeros : List (HloOp τ sig (Elt F))).Forall fun op => op.bufs ⊆ StableHlo.tcRefs τ sig :=
  ⟨StableHlo.nullary_bufs_sub .., StableHlo.unary_bufs_sub ..⟩
theorem midZeros_fresh : (midZeros : List (HloOp τ sig (Elt F))).Forall fun op => op.fresh = ∅ :=
  StableHlo.forall_fresh_of_map rfl
abbrev midZeros_W : List (Ref sig .tc) := [main_c_12, main_v38]
theorem midZeros_writes : (midZeros : List (HloOp τ sig (Elt F))).Forall fun op => op.writes ⊆ (midZeros_W.map (Proc.devRef (τ := τ) .tc)).toFinset :=
  StableHlo.forall_writes_sub_of_map rfl

/-- After the forward loop: the backward loop's starting values. -/
abbrev midEnter : List (HloOp τ sig (Elt F)) :=
  [ StableHlo.nullary main_c_13 (constantI S_ 32 0#32),
    StableHlo.unary main_c_13 main_v39 (broadcastInDim S1024x128 ![] bcast_S_S1024x128 : (⟨S_, .i32⟩ : BufTy).Contents (Elt F) → (⟨S1024x128, .i32⟩ : BufTy).Contents (Elt F)),
    StableHlo.nullary main_c_14 (constantI S_ 32 0#32),
    StableHlo.unary main_v37 main_v40_0 id,
    StableHlo.unary main_c_14 main_v40_1 id,
    StableHlo.unary main_v38 main_v40_2 id,
    StableHlo.unary main_v39 main_v40_3 id ]
theorem midEnter_sub : (midEnter : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.unary_bufs_sub .., StableHlo.unary_bufs_sub ..⟩
theorem midEnter_fresh : (midEnter : List (HloOp τ sig (Elt F))).Forall fun op => op.fresh = ∅ :=
  StableHlo.forall_fresh_of_map rfl
abbrev midEnter_W : List (Ref sig .tc) := [main_c_13, main_v39, main_c_14, main_v40_0, main_v40_1, main_v40_2, main_v40_3]
theorem midEnter_writes : (midEnter : List (HloOp τ sig (Elt F))).Forall fun op => op.writes ⊆ (midEnter_W.map (Proc.devRef (τ := τ) .tc)).toFinset :=
  StableHlo.forall_writes_sub_of_map rfl

/-- Backward step: the position. -/
abbrev bwdRow : List (HloOp τ sig (Elt F)) :=
  [ StableHlo.nullary main_while1b_c_20 (constantI S_ 32 1024#32),
    StableHlo.binary main_while1b_c_20 main_v40_1 main_while1b_v49 (subi : (⟨S_, .i32⟩ : BufTy).Contents (Elt F) → (⟨S_, .i32⟩ : BufTy).Contents (Elt F) → (⟨S_, .i32⟩ : BufTy).Contents (Elt F)),
    StableHlo.nullary main_while1b_c_21 (constantI S_ 32 1#32),
    StableHlo.binary main_while1b_v49 main_while1b_c_21 main_while1b_v50 (subi : (⟨S_, .i32⟩ : BufTy).Contents (Elt F) → (⟨S_, .i32⟩ : BufTy).Contents (Elt F) → (⟨S_, .i32⟩ : BufTy).Contents (Elt F)) ]
theorem bwdRow_sub : (bwdRow : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
theorem bwdRow_fresh : (bwdRow : List (HloOp τ sig (Elt F))).Forall fun op => op.fresh = ∅ :=
  StableHlo.forall_fresh_of_map rfl
abbrev bwdRow_W : List (Ref sig .tc) := [main_while1b_c_20, main_while1b_v49, main_while1b_c_21, main_while1b_v50]
theorem bwdRow_writes : (bwdRow : List (HloOp τ sig (Elt F))).Forall fun op => op.writes ⊆ (bwdRow_W.map (Proc.devRef (τ := τ) .tc)).toFinset :=
  StableHlo.forall_writes_sub_of_map rfl

/-- Backward step: the position's row of the history. -/
abbrev bwdHist : List (HloOp τ sig (Elt F)) :=
  [ StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.unaryIndexed (.of main_v40_0 : StableHlo.TRef sig ⟨S1024x128x17, .i32⟩) ![(.of main_while1b_v50 : StableHlo.TRef sig ⟨S_, .i32⟩), (.of main_while1b_call8_c : StableHlo.TRef sig ⟨S_, .i32⟩), (.of main_while1b_call8_c_0 : StableHlo.TRef sig ⟨S_, .i32⟩)] (.of main_while1b_call8_v0 : StableHlo.TRef sig ⟨S1x128x17, .i32⟩) (fun x i => Host.dynamicSlice S1x128x17 x (fun k => (i k (Shape.Idx.first h_S_)).toInt) sliceFits_S1024x128x17_S1x128x17),
    StableHlo.TRef.reshape (.of main_while1b_call8_v0 : StableHlo.TRef sig ⟨S1x128x17, .i32⟩) (.of main_while1b_v51 : StableHlo.TRef sig ⟨S128x17, .i32⟩) (rfl : (.i32 : EltTy) = .i32) shapeCasts_S1x128x17_S128x17 ]
theorem bwdHist_sub : (bwdHist : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem bwdHist_fresh : (bwdHist : List (HloOp τ sig (Elt F))).Forall fun op => op.fresh = ∅ :=
  StableHlo.forall_fresh_of_map rfl
abbrev bwdHist_W : List (Ref sig .tc) := [main_while1b_call8_c, main_while1b_call8_c_0, main_while1b_call8_v0, main_while1b_v51]
theorem bwdHist_writes : (bwdHist : List (HloOp τ sig (Elt F))).Forall fun op => op.writes ⊆ (bwdHist_W.map (Proc.devRef (τ := τ) .tc)).toFinset :=
  StableHlo.forall_writes_sub_of_map rfl

/-- Backward step: the row's entry at the current state. -/
abbrev bwdPick : List (HloOp τ sig (Elt F)) :=
  [ StableHlo.nullary main_while1b_v52 (iotaInDim S128 32 0),
    StableHlo.nullary main_while1b_c_22 (constantI S_ 32 0#32),
    StableHlo.unary main_while1b_c_22 main_while1b_v53 (broadcastInDim S128 ![] bcast_S_S128 : (⟨S_, .i32⟩ : BufTy).Contents (Elt F) → (⟨S128, .i32⟩ : BufTy).Contents (Elt F)),
    StableHlo.binary main_while1b_v52 main_while1b_v53 main_while1b_v54 (cmpi .slt : (⟨S128, .i32⟩ : BufTy).Contents (Elt F) → (⟨S128, .i32⟩ : BufTy).Contents (Elt F) → (⟨S128, .i1⟩ : BufTy).Contents (Elt F)),
    StableHlo.nullary main_while1b_c_23 (constantI S_ 32 128#32),
    StableHlo.unary main_while1b_c_23 main_while1b_v55 (broadcastInDim S128 ![] bcast_S_S128 : (⟨S_, .i32⟩ : BufTy).Contents (Elt F) → (⟨S128, .i32⟩ : BufTy).Contents (Elt F)),
    StableHlo.binary main_while1b_v52 main_while1b_v55 main_while1b_v56 (addi : (⟨S128, .i32⟩ : BufTy).Contents (Elt F) → (⟨S128, .i32⟩ : BufTy).Contents (Elt F) → (⟨S128, .i32⟩ : BufTy).Contents (Elt F)),
    StableHlo.ternary main_while1b_v54 main_while1b_v56 main_while1b_v52 main_while1b_v57 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.nullary main_while1b_c_24 (constantI S_ 32 0#32),
    StableHlo.unary main_while1b_c_24 main_while1b_v58 (broadcastInDim S128 ![] bcast_S_S128 : (⟨S_, .i32⟩ : BufTy).Contents (Elt F) → (⟨S128, .i32⟩ : BufTy).Contents (Elt F)),
    StableHlo.binary main_v40_2 main_while1b_v58 main_while1b_v59 (cmpi .slt : (⟨S128, .i32⟩ : BufTy).Contents (Elt F) → (⟨S128, .i32⟩ : BufTy).Contents (Elt F) → (⟨S128, .i1⟩ : BufTy).Contents (Elt F)),
    StableHlo.nullary main_while1b_c_25 (constantI S_ 32 17#32),
    StableHlo.unary main_while1b_c_25 main_while1b_v60 (broadcastInDim S128 ![] bcast_S_S128 : (⟨S_, .i32⟩ : BufTy).Contents (Elt F) → (⟨S128, .i32⟩ : BufTy).Contents (Elt F)),
    StableHlo.binary main_v40_2 main_while1b_v60 main_while1b_v61 (addi : (⟨S128, .i32⟩ : BufTy).Contents (Elt F) → (⟨S128, .i32⟩ : BufTy).Contents (Elt F) → (⟨S128, .i32⟩ : BufTy).Contents (Elt F)),
    StableHlo.ternary main_while1b_v59 main_while1b_v61 main_v40_2 main_while1b_v62 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_while1b_v57 main_while1b_v63 (broadcastInDim S128x1 ![0] bcast_S128_S128x1_0 : (⟨S128, .i32⟩ : BufTy).Contents (Elt F) → (⟨S128x1, .i32⟩ : BufTy).Contents (Elt F)),
    StableHlo.unary main_while1b_v62 main_while1b_v64 (broadcastInDim S128x1 ![0] bcast_S128_S128x1_0 : (⟨S128, .i32⟩ : BufTy).Contents (Elt F) → (⟨S128x1, .i32⟩ : BufTy).Contents (Elt F)),
    StableHlo.binary main_while1b_v63 main_while1b_v64 main_while1b_v65 ((fun a b => concatenate S128x2 1 [⟨S128x1, a⟩, ⟨S128x1, b⟩] concatenates_S128x1_S128x1_S128x2_d1) : (⟨S128x1, .i32⟩ : BufTy).Contents (Elt F) → (⟨S128x1, .i32⟩ : BufTy).Contents (Elt F) → (⟨S128x2, .i32⟩ : BufTy).Contents (Elt F)),
    StableHlo.binary main_while1b_v51 main_while1b_v65 main_while1b_v66 ((fun x i => Host.gather gather_S128x17_S128x2_S128_n_01_n_n_01_1_11 x i) : (⟨S128x17, .i32⟩ : BufTy).Contents (Elt F) → (⟨S128x2, .i32⟩ : BufTy).Contents (Elt F) → (⟨S128, .i32⟩ : BufTy).Contents (Elt F)) ]
theorem bwdPick_sub : (bwdPick : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub ..⟩
theorem bwdPick_fresh : (bwdPick : List (HloOp τ sig (Elt F))).Forall fun op => op.fresh = ∅ :=
  StableHlo.forall_fresh_of_map rfl
abbrev bwdPick_W : List (Ref sig .tc) := [main_while1b_v52, main_while1b_c_22, main_while1b_v53, main_while1b_v54, main_while1b_c_23, main_while1b_v55, main_while1b_v56, main_while1b_v57, main_while1b_c_24, main_while1b_v58, main_while1b_v59, main_while1b_c_25, main_while1b_v60, main_while1b_v61, main_while1b_v62, main_while1b_v63, main_while1b_v64, main_while1b_v65, main_while1b_v66]
theorem bwdPick_writes : (bwdPick : List (HloOp τ sig (Elt F))).Forall fun op => op.writes ⊆ (bwdPick_W.map (Proc.devRef (τ := τ) .tc)).toFinset :=
  StableHlo.forall_writes_sub_of_map rfl

/-- Backward step: the entry into the tags. -/
abbrev bwdStore : List (HloOp τ sig (Elt F)) :=
  [ StableHlo.TRef.unary (.of main_while1b_v66 : StableHlo.TRef sig ⟨S128, .i32⟩) (.of main_while1b_call9_v0 : StableHlo.TRef sig ⟨S1x128, .i32⟩) (broadcastInDim S1x128 ![1] bcast_S128_S1x128_1),
    StableHlo.TRef.nullary (.of main_while1b_call9_c : StableHlo.TRef sig ⟨S_, .i32⟩) (constantI S_ 32 0#32),
    StableHlo.TRef.binaryIndexed (.of main_v40_3 : StableHlo.TRef sig ⟨S1024x128, .i32⟩) (.of main_while1b_call9_v0 : StableHlo.TRef sig ⟨S1x128, .i32⟩) ![(.of main_while1b_v50 : StableHlo.TRef sig ⟨S_, .i32⟩), (.of main_while1b_call9_c : StableHlo.TRef sig ⟨S_, .i32⟩)] (.of main_while1b_v67 : StableHlo.TRef sig ⟨S1024x128, .i32⟩) (fun x u i => Host.dynamicUpdateSlice x u (fun k => (i k (Shape.Idx.first h_S_)).toInt) updateFits_S1024x128_S1x128) ]
theorem bwdStore_sub : (bwdStore : List (HloOp τ sig (Elt F))).Forall fun op => op.bufs ⊆ StableHlo.tcRefs τ sig :=
  ⟨StableHlo.unary_bufs_sub .., StableHlo.nullary_bufs_sub .., StableHlo.binaryIndexed_bufs_sub ..⟩
theorem bwdStore_fresh : (bwdStore : List (HloOp τ sig (Elt F))).Forall fun op => op.fresh = ∅ :=
  StableHlo.forall_fresh_of_map rfl
abbrev bwdStore_W : List (Ref sig .tc) := [main_while1b_call9_v0, main_while1b_call9_c, main_while1b_v67]
theorem bwdStore_writes : (bwdStore : List (HloOp τ sig (Elt F))).Forall fun op => op.writes ⊆ (bwdStore_W.map (Proc.devRef (τ := τ) .tc)).toFinset :=
  StableHlo.forall_writes_sub_of_map rfl

/-- Backward step: the counter, the state and the tags for the next step. -/
abbrev bwdNext : List (HloOp τ sig (Elt F)) :=
  [ StableHlo.nullary main_while1b_c_26 (constantI S_ 32 1#32),
    StableHlo.binary main_v40_1 main_while1b_c_26 main_while1b_v68 (addi : (⟨S_, .i32⟩ : BufTy).Contents (Elt F) → (⟨S_, .i32⟩ : BufTy).Contents (Elt F) → (⟨S_, .i32⟩ : BufTy).Contents (Elt F)),
    StableHlo.unary main_while1b_v68 main_v40_1 id,
    StableHlo.unary main_while1b_v66 main_v40_2 id,
    StableHlo.unary main_while1b_v67 main_v40_3 id ]
theorem bwdNext_sub : (bwdNext : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
theorem bwdNext_fresh : (bwdNext : List (HloOp τ sig (Elt F))).Forall fun op => op.fresh = ∅ :=
  StableHlo.forall_fresh_of_map rfl
abbrev bwdNext_W : List (Ref sig .tc) := [main_while1b_c_26, main_while1b_v68, main_v40_1, main_v40_2, main_v40_3]
theorem bwdNext_writes : (bwdNext : List (HloOp τ sig (Elt F))).Forall fun op => op.writes ⊆ (bwdNext_W.map (Proc.devRef (τ := τ) .tc)).toFinset :=
  StableHlo.forall_writes_sub_of_map rfl

/-- After the backward loop: the tags by sequence, and the label of each. -/
abbrev outOps : List (HloOp τ sig (Elt F)) :=
  [ StableHlo.unary main_v40_3 main_v41 ((transpose S128x1024 [1, 0] · transposes_S1024x128_S128x1024_1_0) : (⟨S1024x128, .i32⟩ : BufTy).Contents (Elt F) → (⟨S128x1024, .i32⟩ : BufTy).Contents (Elt F)),
    StableHlo.nullary main_c_15 (constantI S_ 32 0#32),
    StableHlo.unary main_c_15 main_v42 (broadcastInDim S128x1024 ![] bcast_S_S128x1024 : (⟨S_, .i32⟩ : BufTy).Contents (Elt F) → (⟨S128x1024, .i32⟩ : BufTy).Contents (Elt F)),
    StableHlo.binary main_v41 main_v42 main_v43 (cmpi .slt : (⟨S128x1024, .i32⟩ : BufTy).Contents (Elt F) → (⟨S128x1024, .i32⟩ : BufTy).Contents (Elt F) → (⟨S128x1024, .i1⟩ : BufTy).Contents (Elt F)),
    StableHlo.nullary main_c_16 (constantI S_ 32 17#32),
    StableHlo.unary main_c_16 main_v44 (broadcastInDim S128x1024 ![] bcast_S_S128x1024 : (⟨S_, .i32⟩ : BufTy).Contents (Elt F) → (⟨S128x1024, .i32⟩ : BufTy).Contents (Elt F)),
    StableHlo.binary main_v41 main_v44 main_v45 (addi : (⟨S128x1024, .i32⟩ : BufTy).Contents (Elt F) → (⟨S128x1024, .i32⟩ : BufTy).Contents (Elt F) → (⟨S128x1024, .i32⟩ : BufTy).Contents (Elt F)),
    StableHlo.ternary main_v43 main_v45 main_v41 main_v46 (select : (⟨S128x1024, .i1⟩ : BufTy).Contents (Elt F) → (⟨S128x1024, .i32⟩ : BufTy).Contents (Elt F) → (⟨S128x1024, .i32⟩ : BufTy).Contents (Elt F) → (⟨S128x1024, .i32⟩ : BufTy).Contents (Elt F)),
    StableHlo.unary main_v46 main_v47 (broadcastInDim S128x1024x1 ![0, 1] bcast_S128x1024_S128x1024x1_0_1 : (⟨S128x1024, .i32⟩ : BufTy).Contents (Elt F) → (⟨S128x1024x1, .i32⟩ : BufTy).Contents (Elt F)),
    StableHlo.binary main_c main_v47 main_v48 ((fun x i => Host.gather gather_S17_S128x1024x1_S128x1024_n_0_n_n_0_2_1 x i) : (⟨S17, .i32⟩ : BufTy).Contents (Elt F) → (⟨S128x1024x1, .i32⟩ : BufTy).Contents (Elt F) → (⟨S128x1024, .i32⟩ : BufTy).Contents (Elt F)) ]
theorem outOps_sub : (outOps : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
theorem outOps_fresh : (outOps : List (HloOp τ sig (Elt F))).Forall fun op => op.fresh = ∅ :=
  StableHlo.forall_fresh_of_map rfl
abbrev outOps_W : List (Ref sig .tc) := [main_v41, main_c_15, main_v42, main_v43, main_c_16, main_v44, main_v45, main_v46, main_v47, main_v48]
theorem outOps_writes : (outOps : List (HloOp τ sig (Elt F))).Forall fun op => op.writes ⊆ (outOps_W.map (Proc.devRef (τ := τ) .tc)).toFinset :=
  StableHlo.forall_writes_sub_of_map rfl

end Cert.Ref

end
-- ==== Proof.Ref.Chain.lean ====
/-
  The reference's @main is the chain of its operation lists with the two loops between them, and each loop's body the
  chain of its own lists.
-/
module

public import proofs.«01_k».proof.Proof.Ref.Ops

@[expose] public section

set_option maxRecDepth 16384

noncomputable section

namespace Cert.Ref

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.StableHlo (seq Plain)

variable {F : FTy → Type} [FloatOps F]

variable (F) in
/-- The programs of the reference: over its two host loops. -/
abbrev HostProg := Prog (TpuEff nD τ sig (Elt F) (HostLoop.Sig (Pipeline.Sig Λ₀ (Fin 0) fun p => (pcfgs (F := F) p).Adm) 2) .tc) PUnit

/-- The lists before the forward loop. -/
abbrev preI : List (List (HloOp τ sig (Elt F))) := [fwdEntry]
/-- The lists of one forward step. -/
abbrev fwdI : List (List (HloOp τ sig (Elt F))) := [fwdEm, fwdMask, fwdCand, fwdArg, fwdMax, fwdSel, fwdStore, fwdNext]
/-- The lists between the loops. -/
abbrev midI : List (List (HloOp τ sig (Elt F))) := [midEnd, midArg, midLen, midWhere, midAt, midHist, midZeros, midEnter]
/-- The lists of one backward step. -/
abbrev bwdI : List (List (HloOp τ sig (Elt F))) := [bwdRow, bwdHist, bwdPick, bwdStore, bwdNext]
/-- The lists after the backward loop. -/
abbrev outI : List (List (HloOp τ sig (Elt F))) := [outOps]

/-- One forward step is its lists in order. -/
theorem fwd_chain : main_while0_body (F := F) = (Pipeline.chain (fwdI.map fun ops => (seq ops : HostProg F)) : HostProg F) := by
  show _ = (Pipeline.chain [seq fwdEm, seq fwdMask, seq fwdCand, seq fwdArg, seq fwdMax, seq fwdSel, seq fwdStore, seq fwdNext] : HostProg F)
  rewrite [Pipeline.chain_cons, Pipeline.chain_cons, StableHlo.chain_seq_cons, Pipeline.chain_cons, StableHlo.chain_seq_cons,
    Pipeline.chain_cons, Pipeline.chain_cons, StableHlo.chain_seq_cons]
  chain_rfl

/-- One backward step is its lists in order. -/
theorem bwd_chain : main_while1_body (F := F) = (Pipeline.chain (bwdI.map fun ops => (seq ops : HostProg F)) : HostProg F) := by
  show _ = (Pipeline.chain [seq bwdRow, seq bwdHist, seq bwdPick, seq bwdStore, seq bwdNext] : HostProg F)
  rewrite [StableHlo.chain_seq_cons, Pipeline.chain_cons, StableHlo.chain_seq_cons, Pipeline.chain_cons, StableHlo.chain_seq_cons]
  chain_rfl

/-- @main's first part is its items in order. -/
theorem part0_chain (c : Dev nD) : main_part0 (F := F) c = (Pipeline.chainK
    [seq fwdEntry, HostLoop.enter 0, seq midEnd, seq midArg, seq midLen, seq midWhere, seq midAt, seq midHist] (seq midZeros) : HostProg F) := by
  rewrite [StableHlo.chainK_seq_cons, Pipeline.chainK_cons, StableHlo.chainK_seq_cons, Pipeline.chainK_cons, StableHlo.chainK_seq_cons,
    Pipeline.chainK_cons, StableHlo.chainK_seq_cons, Pipeline.chainK_cons]
  chain_rfl

/-- @main's second part is its items in order. -/
theorem part1_chain (c : Dev nD) : main_part1 (F := F) c = (Pipeline.chain [seq midEnter, HostLoop.enter 1, seq outOps] : HostProg F) := by
  rewrite [StableHlo.chain_seq_cons, Pipeline.chain_cons, StableHlo.chain_seq_cons]
  chain_rfl

/-- @main is the lists before, between and after its two loops, the loops entered between them. -/
theorem main_chain (c : Dev nD) : main (F := F) c = (Pipeline.chain ((preI.map fun ops => (seq ops : HostProg F)) ++ HostLoop.enter 0 ::
    ((midI.map fun ops => (seq ops : HostProg F)) ++ HostLoop.enter 1 :: (outI.map fun ops => (seq ops : HostProg F)))) : HostProg F) := by
  show (main_part0 (F := F) c >>= fun _ => main_part1 (F := F) c) = (Pipeline.chain
    [seq fwdEntry, HostLoop.enter 0, seq midEnd, seq midArg, seq midLen, seq midWhere, seq midAt, seq midHist, seq midZeros, seq midEnter,
      HostLoop.enter 1, seq outOps] : HostProg F)
  rewrite [part1_chain, part0_chain, Pipeline.chainK_bind_chain]
  chain_rfl

/-- The lists before the forward loop touch TensorCore buffers only and allocate none. -/
theorem plain_pre : Plain (preI (F := F)) :=
  .cons fwdEntry_sub .nil (List.forall_iff_forall_mem.mp fwdEntry_fresh)

/-- So do one forward step's. -/
theorem plain_fwd : Plain (fwdI (F := F)) :=
  .cons fwdEm_sub (hf := List.forall_iff_forall_mem.mp fwdEm_fresh) <| .cons fwdMask_sub (hf := List.forall_iff_forall_mem.mp fwdMask_fresh) <|
  .cons fwdCand_sub (hf := List.forall_iff_forall_mem.mp fwdCand_fresh) <| .cons fwdArg_sub (hf := List.forall_iff_forall_mem.mp fwdArg_fresh) <|
  .cons fwdMax_sub (hf := List.forall_iff_forall_mem.mp fwdMax_fresh) <| .cons fwdSel_sub (hf := List.forall_iff_forall_mem.mp fwdSel_fresh) <|
  .cons fwdStore_sub (hf := List.forall_iff_forall_mem.mp fwdStore_fresh) <| .cons fwdNext_sub (hf := List.forall_iff_forall_mem.mp fwdNext_fresh) .nil

/-- So do those between the loops. -/
theorem plain_mid : Plain (midI (F := F)) :=
  .cons midEnd_sub (hf := List.forall_iff_forall_mem.mp midEnd_fresh) <| .cons midArg_sub (hf := List.forall_iff_forall_mem.mp midArg_fresh) <|
  .cons midLen_sub (hf := List.forall_iff_forall_mem.mp midLen_fresh) <| .cons midWhere_sub (hf := List.forall_iff_forall_mem.mp midWhere_fresh) <|
  .cons midAt_sub (hf := List.forall_iff_forall_mem.mp midAt_fresh) <| .cons midHist_sub (hf := List.forall_iff_forall_mem.mp midHist_fresh) <|
  .cons midZeros_sub (hf := List.forall_iff_forall_mem.mp midZeros_fresh) <| .cons midEnter_sub (hf := List.forall_iff_forall_mem.mp midEnter_fresh) .nil

/-- So do one backward step's. -/
theorem plain_bwd : Plain (bwdI (F := F)) :=
  .cons bwdRow_sub (hf := List.forall_iff_forall_mem.mp bwdRow_fresh) <| .cons bwdHist_sub (hf := List.forall_iff_forall_mem.mp bwdHist_fresh) <|
  .cons bwdPick_sub (hf := List.forall_iff_forall_mem.mp bwdPick_fresh) <| .cons bwdStore_sub (hf := List.forall_iff_forall_mem.mp bwdStore_fresh) <|
  .cons bwdNext_sub (hf := List.forall_iff_forall_mem.mp bwdNext_fresh) .nil

/-- So do those after the backward loop. -/
theorem plain_out : Plain (outI (F := F)) :=
  .cons outOps_sub .nil (List.forall_iff_forall_mem.mp outOps_fresh)

end Cert.Ref

end
-- ==== Proof.Ref.Run.lean ====
/-
  The run of the reference: its two counted loops, and what every buffer holds at the end.
-/
module

public import proofs.«01_k».proof.Proof.Ref.Chain
public import Idealize.ShloMosaic.Lib.Scf.ExitTest
public import Idealize.ShloMosaic.Lib.Scf.Counter
public import Idealize.ShloMosaic.Lib.Quiescent

@[expose] public section

set_option maxRecDepth 16384

noncomputable section

namespace Cert.Ref

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket ucRefs sub_ucRefs)

variable {F : FTy → Type} [FloatOps F]

/-- The forward loop's test: its bound, and the counter compared with it. -/
abbrev fwdTest : List (HloOp τ sig (Elt F)) :=
  [ StableHlo.nullary main_while0c_c_22 (constantI S_ 32 1023#32),
    StableHlo.binary main_v15_3 main_while0c_c_22 main_while0c_v49 (cmpi .slt) ]
abbrev fwdTest_W : List (Ref sig .tc) := [main_while0c_c_22, main_while0c_v49]
theorem fwdTest_writes : (fwdTest : List (HloOp τ sig (Elt F))).Forall fun op => op.writes ⊆ (fwdTest_W.map (Proc.devRef (τ := τ) .tc)).toFinset :=
  forall_writes_sub_of_map rfl

/-- The backward loop's test. -/
abbrev bwdTest : List (HloOp τ sig (Elt F)) :=
  [ StableHlo.nullary main_while1c_c_20 (constantI S_ 32 1024#32),
    StableHlo.binary main_v40_1 main_while1c_c_20 main_while1c_v49 (cmpi .slt) ]
abbrev bwdTest_W : List (Ref sig .tc) := [main_while1c_c_20, main_while1c_v49]
theorem bwdTest_writes : (bwdTest : List (HloOp τ sig (Elt F))).Forall fun op => op.writes ⊆ (bwdTest_W.map (Proc.devRef (τ := τ) .tc)).toFinset :=
  forall_writes_sub_of_map rfl

variable (m : (ℓ : Loc nD τ sig) → Buf (Elt F) ℓ)

/-! ## The buffers along @main -/

/-- The buffers where the forward loop is entered. -/
abbrev fwdIn (c : Dev nD) : Valuation τ sig (Elt F) := afterL preI (launchContents m c)
/-- The buffers before the forward loop's `k`-th test. -/
abbrev fwdAt (k : ℕ) (c : Dev nD) : Valuation τ sig (Elt F) := atTrip fwdTest fwdI (fwdIn m) k c
/-- The buffers where the backward loop is entered. -/
abbrev bwdIn (c : Dev nD) : Valuation τ sig (Elt F) := afterL midI (after fwdTest (fwdAt m 1023 c))
/-- The buffers before the backward loop's `k`-th test. -/
abbrev bwdAt (k : ℕ) (c : Dev nD) : Valuation τ sig (Elt F) := atTrip bwdTest bwdI (bwdIn m) k c
/-- The buffers at @main's end. -/
abbrev atEnd (c : Dev nD) : Valuation τ sig (Elt F) := afterL outI (after bwdTest (bwdAt m 1024 c))

/-! ## The counters -/

set_option maxRecDepth 100000 in
/-- The last list of a forward step leaves the counter one step on. -/
theorem fwdNext_counter (V : Valuation τ sig (Elt F)) :
    after fwdNext V (Proc.devRef .tc main_v15_3) = addi (V (Proc.devRef .tc main_v15_3)) (constantI S_ 32 1#32) := by
  after_results
  rfl

set_option maxRecDepth 100000 in
/-- The last list of a backward step leaves the counter one step on. -/
theorem bwdNext_counter (V : Valuation τ sig (Elt F)) :
    after bwdNext V (Proc.devRef .tc main_v40_1) = addi (V (Proc.devRef .tc main_v40_1)) (constantI S_ 32 1#32) := by
  after_results
  rfl

/-- A forward step leaves the counter one step on. -/
theorem fwd_counter (V : Valuation τ sig (Elt F)) :
    afterL fwdI (after fwdTest V) (Proc.devRef .tc main_v15_3) = addi (V (Proc.devRef .tc main_v15_3)) (constantI S_ 32 1#32) := by
  simp only [afterL_cons, afterL_nil]
  rw [fwdNext_counter, after_of_writes_sub _ _ fwdStore_writes (by decide +kernel), after_of_writes_sub _ _ fwdSel_writes (by decide +kernel),
    after_of_writes_sub _ _ fwdMax_writes (by decide +kernel), after_of_writes_sub _ _ fwdArg_writes (by decide +kernel),
    after_of_writes_sub _ _ fwdCand_writes (by decide +kernel), after_of_writes_sub _ _ fwdMask_writes (by decide +kernel),
    after_of_writes_sub _ _ fwdEm_writes (by decide +kernel), after_of_writes_sub _ _ fwdTest_writes (by decide +kernel)]

/-- A backward step leaves the counter one step on. -/
theorem bwd_counter (V : Valuation τ sig (Elt F)) :
    afterL bwdI (after bwdTest V) (Proc.devRef .tc main_v40_1) = addi (V (Proc.devRef .tc main_v40_1)) (constantI S_ 32 1#32) := by
  simp only [afterL_cons, afterL_nil]
  rw [bwdNext_counter, after_of_writes_sub _ _ bwdStore_writes (by decide +kernel), after_of_writes_sub _ _ bwdPick_writes (by decide +kernel),
    after_of_writes_sub _ _ bwdHist_writes (by decide +kernel), after_of_writes_sub _ _ bwdRow_writes (by decide +kernel),
    after_of_writes_sub _ _ bwdTest_writes (by decide +kernel)]

/-- The forward counter is 0 where the loop is entered. -/
theorem fwdIn_counter (c : Dev nD) : fwdIn m c (Proc.devRef .tc main_v15_3) = fun _ => (0#32 : BitVec 32) := by
  simp only [fwdIn, afterL_cons, afterL_nil]
  after_reads_simp
  rfl

/-- The backward counter is 0 where the loop is entered. -/
theorem bwdIn_counter (c : Dev nD) : bwdIn m c (Proc.devRef .tc main_v40_1) = fun _ => (0#32 : BitVec 32) := by
  simp only [bwdIn, afterL_cons, afterL_nil]
  after_reads_simp
  rfl

/-- Before the `k`-th test the forward counter is `k`. -/
theorem fwdAt_counter (c : Dev nD) : ∀ k, fwdAt m k c (Proc.devRef .tc main_v15_3) = fun _ => Scf.iv 0#32 1#32 k
  | 0 => by rw [fwdAt, atTrip_zero, fwdIn_counter, Scf.iv_zero]
  | k + 1 => by
    rw [fwdAt, atTrip_succ, fwd_counter]
    show addi (fwdAt m k c (Proc.devRef .tc main_v15_3)) _ = _
    rw [fwdAt_counter c k, Scf.iv_succ]
    rfl

/-- Before the `k`-th test the backward counter is `k`. -/
theorem bwdAt_counter (c : Dev nD) : ∀ k, bwdAt m k c (Proc.devRef .tc main_v40_1) = fun _ => Scf.iv 0#32 1#32 k
  | 0 => by rw [bwdAt, atTrip_zero, bwdIn_counter, Scf.iv_zero]
  | k + 1 => by
    rw [bwdAt, atTrip_succ, bwd_counter]
    show addi (bwdAt m k c (Proc.devRef .tc main_v40_1)) _ = _
    rw [bwdAt_counter c k, Scf.iv_succ]
    rfl

/-! ## The tests -/

-- a rule stated for any thread is applied at the TensorCore's, whose type unfolds in unification
set_option backward.isDefEq.respectTransparency.types false in
/-- The forward test succeeds exactly before the first 1023 trips. -/
theorem fwd_test : CondSpec (pcfgs (F := F)) defs₀ loops (main_while0_cond (F := F)) fwdTest fwdI (fwdIn m) 1023 := by
  intro k hk c bd
  have hctr := fwdAt_counter m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (fwdAt m k c) main_v15_3 HostLoop.idx0)
        (HloOp.result _ (fwdAt m k c) main_while0c_c_22 HostLoop.idx0) = 1#1) (k < 1023)
    rw [nullary_result_ne _ _ _ _ (by decide), nullary_result, hctr]
    exact Scf.cmpi_slt_iv_ub_iff (lb := 0#32) (ub := 1023#32) (st := 1#32) (by decide) (show k ≤ Scf.trips 0#32 1023#32 1#32 from hk)
  isplitl [Hb]; · iexact Hb
  rw [after_cons, after_cons, after_nil]; iexact Hh

set_option backward.isDefEq.respectTransparency.types false in
/-- The backward test succeeds exactly before the first 1024 trips. -/
theorem bwd_test : CondSpec (pcfgs (F := F)) defs₀ loops (main_while1_cond (F := F)) bwdTest bwdI (bwdIn m) 1024 := by
  intro k hk c bd
  have hctr := bwdAt_counter m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (bwdAt m k c) main_v40_1 HostLoop.idx0)
        (HloOp.result _ (bwdAt m k c) main_while1c_c_20 HostLoop.idx0) = 1#1) (k < 1024)
    rw [nullary_result_ne _ _ _ _ (by decide), nullary_result, hctr]
    exact Scf.cmpi_slt_iv_ub_iff (lb := 0#32) (ub := 1024#32) (st := 1#32) (by decide) (show k ≤ Scf.trips 0#32 1024#32 1#32 from hk)
  isplitl [Hb]; · iexact Hb
  rw [after_cons, after_cons, after_nil]; iexact Hh

/-! ## @main as segments -/

local notation "𝕄" => MT nD τ sig Unit (Elt F) ℕ (Option PUnit) ℕ

/-- There is no pipeline, no ticket and no level. -/
abbrev noAdm : (p : Fin 0) → (pcfgs (F := F) p).Adm := fun p => p.elim0
abbrev noTk : Fin 0 → Ticket (Ix := Unit) (Name := ℕ) (U := Option PUnit) (Lvl := ℕ) (nD := nD) (τ := τ) (pcfgs (F := F)) noAdm := fun j => j.elim0
abbrev noL : GSem nD τ sig → Finset Unit := fun _ => ∅
abbrev noLv : GSem nD τ sig → Unit → ℕ := fun _ _ => 0

/-- What a core carries beside the buffers: that it owes nothing. -/
abbrev rest (c : Dev nD) : sProp 𝕄 := iprop(∃ W, owes (c : Thread nD τ) (0 : CellTallies nD τ sig Unit) W)

/-- A loop test that speaks of the buffers alone holds with `rest` carried through it. -/
theorem test_carry {cond : Prog (TpuEff nD τ sig (Elt F) (HostLoop.Sig (Pipeline.Sig Λ₀ (Fin 0) fun p => (pcfgs (F := F) p).Adm) 2) .tc) (Elt F .i1)}
    {ops : List (HloOp τ sig (Elt F))} {bodyI : List (List (HloOp τ sig (Elt F)))} {W₀ : Dev nD → Valuation τ sig (Elt F)} {n : ℕ}
    (h : CondSpec (pcfgs (F := F)) defs₀ loops cond ops bodyI W₀ n) :
    LoopCond (pcfgs (F := F)) defs₀ Variants.none loops (rest (F := F)) cond ops bodyI W₀ n := fun k hk c bd => by
  have hw := h k hk c bd
  refine BIBase.Entails.trans ?_ (((sep_mono_left (Q := rest (F := F) c) hw).trans (wp_frame_r _ _ _)).trans (wp_mono _ _ _ fun v => ?_))
  · iintro ⟨Hb, Hh, HR⟩
    isplitl [Hb Hh]
    · isplitl [Hb] <;> iassumption
    iexact HR
  · iintro ⟨⟨%hv, Hb, Hh⟩, HR⟩
    isplitr; · ipureintro; exact hv
    isplitl [Hb]; · iexact Hb
    isplitl [Hh] <;> iassumption

/-- The forward loop as one segment. -/
abbrev fwdSeg : CSeg (pcfgs (F := F)) noAdm defs₀ Variants.none noL noLv loops noTk :=
  loopSeg _ _ _ _ _ _ _ _ 0 main_while0_cond main_while0_body rfl fwdTest fwdI plain_fwd fwd_chain 1023 (fwdIn m) rest (test_carry (fwd_test m))

/-- The backward loop as one segment. -/
abbrev bwdSeg : CSeg (pcfgs (F := F)) noAdm defs₀ Variants.none noL noLv loops noTk :=
  loopSeg _ _ _ _ _ _ _ _ 1 main_while1_cond main_while1_body rfl bwdTest bwdI plain_bwd bwd_chain 1024 (bwdIn m) rest (test_carry (bwd_test m))

/-- @main's segments: lists, the forward loop, lists, the backward loop, lists. -/
def segs : List (CSeg (pcfgs (F := F)) noAdm defs₀ Variants.none noL noLv loops noTk) :=
  segsOf _ _ _ _ _ _ _ _ rest preI plain_pre (launchContents m)
    ++ fwdSeg m :: (segsOf _ _ _ _ _ _ _ _ rest midI plain_mid (fun c => after fwdTest (fwdAt m 1023 c))
    ++ bwdSeg m :: segsOf _ _ _ _ _ _ _ _ rest outI plain_out (fun c => after bwdTest (bwdAt m 1024 c)))

/-- The segments' programs are @main's items. -/
theorem segs_prog : (segs m).map CSeg.prog = (preI.map fun ops => (seq ops : HostProg F)) ++ HostLoop.enter 0 ::
    ((midI.map fun ops => (seq ops : HostProg F)) ++ HostLoop.enter 1 :: (outI.map fun ops => (seq ops : HostProg F))) := by
  unfold segs
  rw [List.map_append, List.map_cons, List.map_append, List.map_cons, segsOf_prog, segsOf_prog, segsOf_prog]
  rfl

/-- The segments lead from the launch's buffers to `atEnd`. -/
theorem segs_chains : CSeg.Chains (fun c => iprop(held (c : Thread nD τ) (ucRefs τ sig) (launchContents m c) ∗ rest c)) (segs m)
    (fun c => iprop(iprop(held (c : Thread nD τ) (ucRefs τ sig) (atEnd m c)) ∗ ∃ W, owes (c : Thread nD τ) (0 : CellTallies nD τ sig Unit) W)) := by
  unfold segs
  exact CSeg.Chains.append (segsOf_chains _ _ _ _ _ _ _ _ rest preI plain_pre _) ⟨fun _ => .rfl,
    CSeg.Chains.append (segsOf_chains _ _ _ _ _ _ _ _ rest midI plain_mid _) ⟨fun _ => .rfl, segsOf_chains _ _ _ _ _ _ _ _ rest outI plain_out _⟩⟩

/-- The reference terminates, from any memory, with every buffer at `atEnd`. -/
theorem run (ρ : Dev nD → PrngReg) : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = atEnd m c (Proc.devRef .tc b)) :=
  Pipeline.θ_run_regions_loop_kit (Ix := Unit) (Name := ℕ) (U := Option PUnit) (Lvl := ℕ) (J := Fin 0) (P := Fin 0) (Val := Elt F)
    (pcfgs (F := F)) noAdm (fun k => k.1.elim0) defs₀ Variants.none noL noLv loops noTk m ρ main (segs m)
    (fun c Q => by
      rw [main_chain c]
      show wp _ _ _ (Pipeline.chain ((segs m).map CSeg.prog)) Q ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ rest c))
    (Tₙ := fun c => iprop(held (c : Thread nD τ) (ucRefs τ sig) (atEnd m c)))
    (hch := segs_chains m)
    (hinit := by
      refine Pipeline.initEach noL noLv fun c => ?_
      rw [show unscopedBufs c (fun b => m ((c : Thread nD τ).loc b)) = held (c : Thread nD τ) (ucRefs τ sig) (launchContents m c) from
        Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = atEnd m c b)
    (hfin := fun c s' => by
      unfold held
      iintro ⟨Hh, HSI⟩
      ihave Hr := (pointsTo_read_all (ucRefs τ sig) (fun b => ((c : Dev nD), b)) (fun b => atEnd m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-! ## The arguments -/

/-- A buffer written by no list of @main ends as it was at the launch. -/
theorem atEnd_of_unwritten (c : Dev nD) (b : Ref sig .tc)
    (h : b ∉ fwdEntry_W ++ fwdTest_W ++ fwdEm_W ++ fwdMask_W ++ fwdCand_W ++ fwdArg_W ++ fwdMax_W ++ fwdSel_W ++ fwdStore_W ++ fwdNext_W ++ midEnd_W ++ midArg_W
      ++ midLen_W ++ midWhere_W ++ midAt_W ++ midHist_W ++ midZeros_W ++ midEnter_W ++ bwdTest_W ++ bwdRow_W ++ bwdHist_W ++ bwdPick_W ++ bwdStore_W
      ++ bwdNext_W ++ outOps_W) : atEnd m c (Proc.devRef .tc b) = m ((c.tc : Thread nD τ).loc b) := by
  simp only [List.mem_append, not_or] at h
  obtain ⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩ := h
  have hf : ∀ k, fwdAt m k c (Proc.devRef .tc b) = m ((c.tc : Thread nD τ).loc b) := fun k => by
    induction k with
    | zero => rw [fwdAt, atTrip_zero, fwdIn, afterL_cons, afterL_nil, after_of_writes_sub _ _ fwdEntry_writes h0]
    | succ k ih =>
      rw [fwdAt, atTrip_succ]
      simp only [afterL_cons, afterL_nil]
      rw [after_of_writes_sub _ _ fwdNext_writes h9, after_of_writes_sub _ _ fwdStore_writes h8, after_of_writes_sub _ _ fwdSel_writes h7,
        after_of_writes_sub _ _ fwdMax_writes h6, after_of_writes_sub _ _ fwdArg_writes h5, after_of_writes_sub _ _ fwdCand_writes h4,
        after_of_writes_sub _ _ fwdMask_writes h3, after_of_writes_sub _ _ fwdEm_writes h2, after_of_writes_sub _ _ fwdTest_writes h1]
      exact ih
  have hb : ∀ k, bwdAt m k c (Proc.devRef .tc b) = m ((c.tc : Thread nD τ).loc b) := fun k => by
    induction k with
    | zero =>
      rw [bwdAt, atTrip_zero, bwdIn]
      simp only [afterL_cons, afterL_nil]
      rw [after_of_writes_sub _ _ midEnter_writes h17, after_of_writes_sub _ _ midZeros_writes h16, after_of_writes_sub _ _ midHist_writes h15,
        after_of_writes_sub _ _ midAt_writes h14, after_of_writes_sub _ _ midWhere_writes h13, after_of_writes_sub _ _ midLen_writes h12,
        after_of_writes_sub _ _ midArg_writes h11, after_of_writes_sub _ _ midEnd_writes h10, after_of_writes_sub _ _ fwdTest_writes h1]
      exact hf 1023
    | succ k ih =>
      rw [bwdAt, atTrip_succ]
      simp only [afterL_cons, afterL_nil]
      rw [after_of_writes_sub _ _ bwdNext_writes h23, after_of_writes_sub _ _ bwdStore_writes h22, after_of_writes_sub _ _ bwdPick_writes h21,
        after_of_writes_sub _ _ bwdHist_writes h20, after_of_writes_sub _ _ bwdRow_writes h19, after_of_writes_sub _ _ bwdTest_writes h18]
      exact ih
  rw [atEnd, afterL_cons, afterL_nil, after_of_writes_sub _ _ outOps_writes h24, after_of_writes_sub _ _ bwdTest_writes h18]
  exact hb 1024

/-- The two arguments end as they were at the launch. -/
theorem atEnd_arg0 (c : Dev nD) : atEnd m c (Proc.devRef .tc main_arg0) = m ((c.tc : Thread nD τ).loc main_arg0) :=
  atEnd_of_unwritten m c main_arg0 (by decide +kernel)
theorem atEnd_arg1 (c : Dev nD) : atEnd m c (Proc.devRef .tc main_arg1) = m ((c.tc : Thread nD τ).loc main_arg1) :=
  atEnd_of_unwritten m c main_arg1 (by decide +kernel)

/-- The frame: the reference terminates, its arguments end unchanged and no counter is left raised. -/
theorem frame (ρ : Dev nD → PrngReg) : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run (defs (F := F)) _ _).mono (fun r h => ⟨fun c => ⟨(h c main_arg0 (by decide)).trans (atEnd_arg0 m c), (h c main_arg1 (by decide)).trans (atEnd_arg1 m c)⟩,
    sem_eq_zero_of_no_sems rfl r.2⟩) (run m ρ)

end Cert.Ref

end
-- ==== Proof.Ref.ArgMax.lean ====
/-
  The reference's arg-max and maximum over the seventeen states, over the extended reals: the first state at which the values are
  greatest, and the value there.
-/
module

public import proofs.«01_k».proof.Proof.Ref.Ops
public import proofs.«01_k».proof.Proof.Model
public import Idealize.ShloMosaic.Lib.Pointwise
public import Idealize.ShloMosaic.Lib.DynamicIndex
public import Idealize.ShloMosaic.PureOps.Reduce
public import Idealize.ShloMosaic.PureOps.Ideal.Laws

@[expose] public section

set_option maxRecDepth 16384

noncomputable section

namespace Cert.Ref

open Cert.ReferenceIdeal Cert.ReferenceIdeal.Gen
open Idealize.ShloMosaic Idealize.ShloMosaic.Pointwise
open Cert.Viterbi (FirstMax firstMax firstMax_spec)

/-- A value with its state, `r`, is at least as good as `p`: greater, or equal and of no later a state. -/
def AtLeast (p r : Ideal .f32 × BitVec 32) : Prop := (p.1 : EReal) < r.1 ∨ p.1 = r.1 ∧ r.2.toInt ≤ p.2.toInt

theorem AtLeast.refl (p : Ideal .f32 × BitVec 32) : AtLeast p p := .inr ⟨rfl, le_rfl⟩

theorem AtLeast.trans {p q r : Ideal .f32 × BitVec 32} (h : AtLeast p q) (h' : AtLeast q r) : AtLeast p r := by
  rcases h with h | ⟨h, hs⟩ <;> rcases h' with h' | ⟨h', hs'⟩
  · exact .inl (lt_trans h h')
  · exact .inl (h' ▸ h)
  · exact .inl (h ▸ h')
  · exact .inr ⟨h.trans h', hs'.trans hs⟩

/-- The arg-max's body keeps one of the two pairs it is given, the one at least as good as the other. -/
theorem better_cases (a b : Ideal .f32 × BitVec 32) :
    (reducer_argmax_f32_i32 a b = a ∧ AtLeast b a) ∨ (reducer_argmax_f32_i32 a b = b ∧ AtLeast a b) := by
  obtain ⟨x, s⟩ := a
  obtain ⟨y, u⟩ := b
  have hgt : FloatOps.cmpf (F := Ideal) .ogt x y = BitVec.ofBool (decide ((y : EReal) < x)) := rfl
  have hne : FloatOps.cmpf (F := Ideal) .une x x = BitVec.ofBool (decide ((x : EReal) ≠ x)) := rfl
  have heq : FloatOps.cmpf (F := Ideal) .oeq x y = BitVec.ofBool (decide ((x : EReal) = y)) := rfl
  have hlt : IntOp.cmpi .slt s u = BitVec.ofBool (decide (s.toInt < u.toInt)) := rfl
  unfold reducer_argmax_f32_i32
  simp only [hgt, hne, heq, hlt]
  rcases lt_trichotomy (x : EReal) y with h | h | h
  · right
    refine ⟨?_, .inl h⟩
    simp [Scalar.select, IntOp.ori, IntOp.andi, h.ne, not_lt.mpr h.le]
  · have h : x = y := h
    subst h
    by_cases hs : s.toInt < u.toInt
    · left
      refine ⟨?_, .inr ⟨rfl, hs.le⟩⟩
      simp [Scalar.select, IntOp.ori, IntOp.andi, hs]
    · right
      refine ⟨?_, .inr ⟨rfl, not_lt.mp hs⟩⟩
      simp [Scalar.select, IntOp.ori, IntOp.andi, hs]
  · left
    refine ⟨?_, .inl h⟩
    simp [Scalar.select, IntOp.ori, IntOp.andi, h, h.ne']

/-- The arg-max's body folded over a list: one of the pairs, or the one it began with, and at least as good as them all. -/
theorem fold_best (l : List (Ideal .f32 × BitVec 32)) : ∀ p : Ideal .f32 × BitVec 32,
    (l.foldl reducer_argmax_f32_i32 p = p ∨ l.foldl reducer_argmax_f32_i32 p ∈ l)
      ∧ AtLeast p (l.foldl reducer_argmax_f32_i32 p) ∧ ∀ q ∈ l, AtLeast q (l.foldl reducer_argmax_f32_i32 p) := by
  induction l with
  | nil => exact fun p => ⟨.inl rfl, .refl p, fun q hq => absurd hq List.not_mem_nil⟩
  | cons a l ih =>
    intro p
    obtain ⟨hin, hp, hall⟩ := ih (reducer_argmax_f32_i32 p a)
    rw [List.foldl_cons]
    rcases better_cases p a with ⟨he, hd⟩ | ⟨he, hd⟩
    · rw [he] at hin hp hall ⊢
      refine ⟨hin.imp id (List.mem_cons_of_mem _), hp, fun q hq => ?_⟩
      rcases List.mem_cons.mp hq with rfl | hq
      · exact hd.trans hp
      · exact hall q hq
    · rw [he] at hin hp hall ⊢
      refine ⟨.inr ?_, hd.trans hp, fun q hq => ?_⟩
      · rcases hin with h | h
        · rw [h]; exact List.mem_cons_self
        · exact List.mem_cons_of_mem _ h
      · rcases List.mem_cons.mp hq with rfl | hq
        · exact hp
        · exact hall q hq

theorem toInt_state (i : Fin 17) : (BitVec.ofNat 32 i.val).toInt = i.val := toInt_ofNat_of_lt (by omega)

/-- Folded over the values of all seventeen states, each with its state, from minus infinity at state zero: the state is the first
    one at which the value is greatest. -/
theorem fold_state (f : Fin 17 → EReal) (l : List (Ideal .f32 × BitVec 32)) (hl : ∀ q ∈ l, ∃ i : Fin 17, q = (f i, BitVec.ofNat 32 i.val))
    (hf : ∀ i : Fin 17, ((f i, BitVec.ofNat 32 i.val) : Ideal .f32 × BitVec 32) ∈ l) :
    (l.foldl reducer_argmax_f32_i32 ((⊥ : EReal), 0#32)).2 = BitVec.ofNat 32 (firstMax f).val := by
  obtain ⟨hin, -, hall⟩ := fold_best l ((⊥ : EReal), 0#32)
  generalize l.foldl reducer_argmax_f32_i32 ((⊥ : EReal), 0#32) = r at hin hall
  rcases hin with h | h
  · subst h
    have hbot : ∀ i, f i = ⊥ := fun i => by
      rcases hall _ (hf i) with h | ⟨h, -⟩
      · exact absurd h not_lt_bot
      · exact h
    have h0 : firstMax f = 0 := FirstMax.eq ⟨fun k => by rw [hbot, hbot], fun k hk => absurd hk (Fin.not_lt_zero k)⟩
    rw [h0]
    rfl
  · obtain ⟨i, rfl⟩ := hl _ h
    have hi : firstMax f = i := FirstMax.eq ⟨fun k => by
      rcases hall _ (hf k) with h | ⟨h, -⟩
      · exact le_of_lt h
      · exact le_of_eq h, fun k hk => by
      rcases hall _ (hf k) with h | ⟨-, h⟩
      · exact h
      · have h : (BitVec.ofNat 32 i.val).toInt ≤ (BitVec.ofNat 32 k.val).toInt := h
        rw [toInt_state, toInt_state] at h
        have : k.val < i.val := hk
        omega⟩
    rw [hi]

/-- What the arg-max begins with: minus infinity. -/
theorem lowest : (FloatOps.ofBits .f32 0xFF800000#32 : Ideal .f32) = (⊥ : EReal) := by
  show Ideal.ofBits .f32 0xFF800000#32 = ⊥
  simp [Ideal.ofBits, Ideal.ieee]

/-- The two axes a step keeps: the sequence and the state it goes to. -/
theorem drop3 (b : Fin 128) (i j : Fin 17) : reducesTo_S128x17x17_S128x17_d1.drop (ix3 b i j) = ix2 b j := by
  funext a
  fin_cases a <;> rfl

/-- The one axis the end keeps: the sequence. -/
theorem drop2 (b : Fin 128) (i : Fin 17) : reducesTo_S128x17_S128_d1.drop (ix2 b i) = ix1 b := by
  funext a
  fin_cases a
  rfl

/-- Arg-max over the states a step comes from. -/
theorem argmax3_at (x : FVec Ideal S128x17x17 .f32) (b : Fin 128) (j : Fin 17) :
    (Host.argReduce reducer_argmax_f32_i32 x (iotaInDim S128x17x17 32 1) (constant S_ .f32 0xFF800000#32) (constantI S_ 32 0#32)
        reducesTo_S128x17x17_S128x17_d1 h_S_ (ix2 b j)).2 = BitVec.ofNat 32 (firstMax fun i => x (ix3 b i j)).val := by
  rw [Ideal.argReduce_eq_reduce2, Host.reduce2_eq_foldl_fiber,
    show (constant S_ .f32 0xFF800000#32 : FVec Ideal S_ .f32) (Shape.Idx.first h_S_) = (⊥ : EReal) from lowest]
  refine fold_state _ _ (fun q hq => ?_) fun i => ?_
  · obtain ⟨n, hn, rfl⟩ := List.mem_map.mp hq
    have hn := of_decide_eq_true (List.mem_filter.mp hn).2
    generalize S128x17x17.rowMajor.symm n = y at hn
    idx_vars y
    rw [drop3] at hn
    obtain rfl : y0 = b := congrFun hn 0
    obtain rfl : y2 = j := congrFun hn 1
    exact ⟨y1, rfl⟩
  · refine List.mem_map.mpr ⟨S128x17x17.rowMajor (ix3 b i j), List.mem_filter.mpr ⟨List.mem_finRange _, ?_⟩, ?_⟩
    · rw [Equiv.symm_apply_apply, drop3]
      exact decide_eq_true rfl
    · rw [Equiv.symm_apply_apply]
      rfl

/-- Arg-max over the states a sequence ends in. -/
theorem argmax2_at (x : FVec Ideal S128x17 .f32) (b : Fin 128) :
    (Host.argReduce reducer_argmax_f32_i32 x (iotaInDim S128x17 32 1) (constant S_ .f32 0xFF800000#32) (constantI S_ 32 0#32)
        reducesTo_S128x17_S128_d1 h_S_ (ix1 b)).2 = BitVec.ofNat 32 (firstMax fun i => x (ix2 b i)).val := by
  rw [Ideal.argReduce_eq_reduce2, Host.reduce2_eq_foldl_fiber,
    show (constant S_ .f32 0xFF800000#32 : FVec Ideal S_ .f32) (Shape.Idx.first h_S_) = (⊥ : EReal) from lowest]
  refine fold_state _ _ (fun q hq => ?_) fun i => ?_
  · obtain ⟨n, hn, rfl⟩ := List.mem_map.mp hq
    have hn := of_decide_eq_true (List.mem_filter.mp hn).2
    generalize S128x17.rowMajor.symm n = y at hn
    idx_vars y
    rw [drop2] at hn
    obtain rfl : y0 = b := congrFun hn 0
    exact ⟨y1, rfl⟩
  · refine List.mem_map.mpr ⟨S128x17.rowMajor (ix2 b i), List.mem_filter.mpr ⟨List.mem_finRange _, ?_⟩, ?_⟩
    · rw [Equiv.symm_apply_apply, drop2]
      exact decide_eq_true rfl
    · rw [Equiv.symm_apply_apply]
      rfl

/-- The maximum over the states a step comes from: the value at the first state where it is greatest. -/
theorem max3_at (x : FVec Ideal S128x17x17 .f32) (b : Fin 128) (j : Fin 17) :
    Host.reduce FloatOps.maximumf x (constant S_ .f32 0xFF800000#32) reducesTo_S128x17x17_S128x17_d1 h_S_ (ix2 b j)
      = x (ix3 b (firstMax fun i => x (ix3 b i j)) j) := by
  have hm := (firstMax_spec fun i => x (ix3 b i j)).1
  generalize (firstMax fun i => x (ix3 b i j)) = a at hm
  pointwise
  rw [show Ideal.ofBits FTy.f32 4286578688#32 = ⊥ from lowest]
  exact le_antisymm ((Finset.fold_max_le _).mpr ⟨bot_le, fun k _ => hm k⟩) ((Finset.le_fold_max _).mpr (.inr ⟨a, Finset.mem_univ _, le_rfl⟩))

end Cert.Ref
-- ==== Proof.Ref.Rows.lean ====
/-
  Rows read from and written to the reference's arrays at a computed position, and the lookups by index, at an element.
-/
module

public import proofs.«01_k».proof.Proof.Ref.ArgMax
public import Idealize.ShloMosaic.Lib.WordCmp

@[expose] public section

set_option maxRecDepth 16384

noncomputable section

namespace Cert.Ref

open Cert.ReferenceIdeal Cert.ReferenceIdeal.Gen
open Idealize.ShloMosaic Idealize.ShloMosaic.Pointwise

variable {α : Type} {N : ℕ}

/-- Row `k` of an array of rows over sequences and states. -/
theorem readRow3 (x : (⟨3, ![N, 128, 17]⟩ : Shape).Idx → α) (start : Fin 3 → Int) (h : (⟨3, ![N, 128, 17]⟩ : Shape).Slices (fun _ => 0) S1x128x17)
    (k : Fin N) (h0 : start 0 = k.val) (h1 : start 1 = 0) (h2 : start 2 = 0) (b : Fin 128) (j : Fin 17) :
    shapeCast S128x17 (Host.dynamicSlice S1x128x17 x start h) shapeCasts_S1x128x17_S128x17 (ix2 b j) = x (ix3 k b j) := by
  have hoff : (⟨3, ![N, 128, 17]⟩ : Shape).Slices ![k.val, 0, 0] S1x128x17 := ⟨rfl, fun a => by fin_cases a <;> simp <;> omega⟩
  rw [Host.dynamicSlice_eq_extractStridedSlice _ _ _ _ _ hoff fun a => by fin_cases a; exacts [h0, h1, h2]]
  pointwise
  exact congrArg x (funext fun a => Fin.ext (by fin_cases a <;> simp [Shape.Idx.norm_def]))

/-- Row `k` of an array of rows over sequences. -/
theorem readRow2 (x : (⟨2, ![N, 128]⟩ : Shape).Idx → α) (start : Fin 2 → Int) (h : (⟨2, ![N, 128]⟩ : Shape).Slices (fun _ => 0) S1x128)
    (k : Fin N) (h0 : start 0 = k.val) (h1 : start 1 = 0) (b : Fin 128) :
    shapeCast S128 (Host.dynamicSlice S1x128 x start h) shapeCasts_S1x128_S128 (ix1 b) = x (ix2 k b) := by
  have hoff : (⟨2, ![N, 128]⟩ : Shape).Slices ![k.val, 0] S1x128 := ⟨rfl, fun a => by fin_cases a <;> simp <;> omega⟩
  rw [Host.dynamicSlice_eq_extractStridedSlice _ _ _ _ _ hoff fun a => by fin_cases a; exacts [h0, h1]]
  pointwise
  exact congrArg x (funext fun a => Fin.ext (by fin_cases a <;> simp [Shape.Idx.norm_def]))

/-- A row over sequences and states written at `k`: the row there, the array elsewhere. -/
theorem writeRow3 (x : (⟨3, ![N, 128, 17]⟩ : Shape).Idx → α) (u : S128x17.Idx → α) (start : Fin 3 → Int)
    (h : (⟨3, ![N, 128, 17]⟩ : Shape).Slices (fun _ => 0) S1x128x17)
    (k : Fin N) (h0 : start 0 = k.val) (h1 : start 1 = 0) (h2 : start 2 = 0) (s : Fin N) (b : Fin 128) (j : Fin 17) :
    Host.dynamicUpdateSlice x (broadcastInDim S1x128x17 ![1, 2] bcast_S128x17_S1x128x17_1_2 u) start h (ix3 s b j)
      = if s = k then u (ix2 b j) else x (ix3 s b j) := by
  have hoff : (⟨3, ![N, 128, 17]⟩ : Shape).Slices ![k.val, 0, 0] S1x128x17 := ⟨rfl, fun a => by fin_cases a <;> simp <;> omega⟩
  rw [WordCmp.dynamicUpdateSlice_eq_update _ _ _ _ _ hoff fun a => by fin_cases a; exacts [h0, h1, h2]]
  rw [updateSlice_apply]
  by_cases hs : s = k
  · subst hs
    rw [if_pos rfl, dif_pos fun a => by fin_cases a <;> simp]
    trans broadcastInDim S1x128x17 ![1, 2] bcast_S128x17_S1x128x17_1_2 u (ix3 0 b j)
    · exact congrArg _ (funext fun a => Fin.ext (by fin_cases a <;> simp [Shape.Idx.norm_def]))
    · pointwise
  · rw [if_neg hs, dif_neg fun h => hs (Fin.ext ?_)]
    have := h 0
    simp at this
    omega

/-- A row over sequences written at `k`. -/
theorem writeRow2 (x : (⟨2, ![N, 128]⟩ : Shape).Idx → α) (u : S128.Idx → α) (start : Fin 2 → Int)
    (h : (⟨2, ![N, 128]⟩ : Shape).Slices (fun _ => 0) S1x128)
    (k : Fin N) (h0 : start 0 = k.val) (h1 : start 1 = 0) (s : Fin N) (b : Fin 128) :
    Host.dynamicUpdateSlice x (broadcastInDim S1x128 ![1] bcast_S128_S1x128_1 u) start h (ix2 s b)
      = if s = k then u (ix1 b) else x (ix2 s b) := by
  have hoff : (⟨2, ![N, 128]⟩ : Shape).Slices ![k.val, 0] S1x128 := ⟨rfl, fun a => by fin_cases a <;> simp <;> omega⟩
  rw [WordCmp.dynamicUpdateSlice_eq_update _ _ _ _ _ hoff fun a => by fin_cases a; exacts [h0, h1]]
  rw [updateSlice_apply]
  by_cases hs : s = k
  · subst hs
    rw [if_pos rfl, dif_pos fun a => by fin_cases a <;> simp]
    trans broadcastInDim S1x128 ![1] bcast_S128_S1x128_1 u (ix2 0 b)
    · exact congrArg _ (funext fun a => Fin.ext (by fin_cases a <;> simp [Shape.Idx.norm_def]))
    · pointwise
  · rw [if_neg hs, dif_neg fun h => hs (Fin.ext ?_)]
    have := h 0
    simp at this
    omega

/-- The emissions by state: each state's column is its channel's. -/
theorem gatherChannel (x : S1024x128x4.Idx → α) (idx : IVec S17x1 32) (t : Fin 1024) (b : Fin 128) (j : Fin 17) (k : Fin 4)
    (hk : idx (ix2 j 0) = BitVec.ofNat 32 k.val) :
    Host.gather gather_S1024x128x4_S17x1_S1024x128x17_01_2_n_n_2_1_10241281 x idx (ix3 t b j) = x (ix3 t b k) := by
  unfold Host.gather
  refine congrArg x (funext fun a => Fin.ext ?_)
  have hi : gather_S1024x128x4_S17x1_S1024x128x17_01_2_n_n_2_1_10241281.siIdx (ix3 t b j) ⟨0, by decide⟩ = ix2 j 0 := by
    funext a'; fin_cases a' <;> rfl
  fin_cases a
  · show 0 + 0 + t.val = t.val
    omega
  · show 0 + 0 + b.val = b.val
    omega
  · show min (idx (gather_S1024x128x4_S17x1_S1024x128x17_01_2_n_n_2_1_10241281.siIdx (ix3 t b j) ⟨0, _⟩)).toInt.toNat 3 + 0 + 0 = k.val
    rw [hi, hk, toInt_ofNat_of_lt (by omega)]
    simp
    omega

/-- One entry of every sequence's row, at that sequence's state. -/
theorem gatherState (x : S128x17.Idx → α) (idx : IVec S128x2 32) (b : Fin 128) (j : Fin 17)
    (h0 : idx (ix2 b 0) = BitVec.ofNat 32 b.val) (h1 : idx (ix2 b 1) = BitVec.ofNat 32 j.val) :
    Host.gather gather_S128x17_S128x2_S128_n_01_n_n_01_1_11 x idx (ix1 b) = x (ix2 b j) := by
  unfold Host.gather
  refine congrArg x (funext fun a => Fin.ext ?_)
  have hi : gather_S128x17_S128x2_S128_n_01_n_n_01_1_11.siIdx (ix1 b) ⟨0, by decide⟩ = ix2 b 0 := by
    funext a'; fin_cases a' <;> rfl
  have hi' : gather_S128x17_S128x2_S128_n_01_n_n_01_1_11.siIdx (ix1 b) ⟨1, by decide⟩ = ix2 b 1 := by
    funext a'; fin_cases a' <;> rfl
  fin_cases a
  · show min (idx (gather_S128x17_S128x2_S128_n_01_n_n_01_1_11.siIdx (ix1 b) ⟨0, _⟩)).toInt.toNat 127 + 0 + 0 = b.val
    rw [hi, h0, toInt_ofNat_of_lt (by omega)]
    simp
    omega
  · show min (idx (gather_S128x17_S128x2_S128_n_01_n_n_01_1_11.siIdx (ix1 b) ⟨1, _⟩)).toInt.toNat 16 + 0 + 0 = j.val
    rw [hi', h1, toInt_ofNat_of_lt (by omega)]
    simp
    omega

/-- The label of every state of an array of them. -/
theorem gatherLabel (x : S17.Idx → α) (idx : IVec S128x1024x1 32) (b : Fin 128) (t : Fin 1024) (j : Fin 17)
    (h : idx (ix3 b t 0) = BitVec.ofNat 32 j.val) :
    Host.gather gather_S17_S128x1024x1_S128x1024_n_0_n_n_0_2_1 x idx (ix2 b t) = x (ix1 j) := by
  unfold Host.gather
  refine congrArg x (funext fun a => Fin.ext ?_)
  have hi : gather_S17_S128x1024x1_S128x1024_n_0_n_n_0_2_1.siIdx (ix2 b t) ⟨0, by decide⟩ = ix3 b t 0 := by
    funext a'; fin_cases a' <;> rfl
  fin_cases a
  show min (idx (gather_S17_S128x1024x1_S128x1024_n_0_n_n_0_2_1.siIdx (ix2 b t) ⟨0, _⟩)).toInt.toNat 16 + 0 + 0 = j.val
  rw [hi, h, toInt_ofNat_of_lt (by omega)]
  simp
  omega

end Cert.Ref
-- ==== Proof.Ref.Forward.lean ====
/-
  The reference's forward loop over the extended reals: with every position valid, before the loop's `k`-th test the scores are Viterbi
  decoding's at time `k`, and the first `k` rows of the history are its back-pointers.
-/
module

public import proofs.«01_k».proof.Proof.Ref.Run
public import proofs.«01_k».proof.Proof.Ref.Rows
public import proofs.«01_k».proof.Proof.Spec

@[expose] public section

set_option maxRecDepth 16384

noncomputable section

namespace Cert.Ref

open Cert.ReferenceIdeal Cert.ReferenceIdeal.Gen
open Idealize.ShloMosaic Idealize.ShloMosaic.TcCoe Idealize.ShloMosaic.Pointwise Idealize.ShloMosaic.StableHlo
open Cert.Viterbi (firstMax)

/-! ## One step -/

section Step

variable (V : Valuation τ sig (Elt Ideal))

/-- A row of the emissions, at the counter. -/
theorem fwdEm_at (k : Fin 1023) (hk : V (Proc.devRef .tc main_v15_3) = fun _ => BitVec.ofNat 32 k.val) (b : Fin 128) (j : Fin 17) :
    after fwdEm V (Proc.devRef .tc main_while0b_v49) (ix2 b j) = V (Proc.devRef .tc main_v15_0) (ix3 k b j) := by
  after_results
  refine readRow3 (V (Proc.devRef .tc main_v15_0)) _ sliceFits_S1023x128x17_S1x128x17 k ?_ rfl rfl b j
  show BitVec.toInt (V (Proc.devRef .tc main_v15_3) _) = _
  rw [hk]
  exact toInt_ofNat_of_lt (by omega)

/-- A row of the mask, at the counter. -/
theorem fwdMask_at (k : Fin 1023) (hk : V (Proc.devRef .tc main_v15_3) = fun _ => BitVec.ofNat 32 k.val) (b : Fin 128) :
    after fwdMask V (Proc.devRef .tc main_while0b_v50) (ix1 b) = V (Proc.devRef .tc main_v15_1) (ix2 k b) := by
  after_results
  refine readRow2 (V (Proc.devRef .tc main_v15_1)) _ sliceFits_S1023x128_S1x128 k ?_ rfl b
  show BitVec.toInt (V (Proc.devRef .tc main_v15_3) _) = _
  rw [hk]
  exact toInt_ofNat_of_lt (by omega)

/-- The candidate scores: transition plus score plus emission. -/
theorem fwdCand_at (T : FVec Ideal S17x17 .f32) (s e : FVec Ideal S128x17 .f32) (hT : V (Proc.devRef .tc main_v15_2) = T)
    (hs : V (Proc.devRef .tc main_v15_4) = s) (he : V (Proc.devRef .tc main_while0b_v49) = e) (b : Fin 128) (i j : Fin 17) :
    after fwdCand V (Proc.devRef .tc main_while0b_v58) (ix3 b i j) = T (ix2 i j) + s (ix2 b i) + e (ix2 b j) := by
  after_results
  rw [hT, hs, he]
  pointwise

/-- The first best state to come from. -/
theorem fwdArg_at (b : Fin 128) (j : Fin 17) : after fwdArg V (Proc.devRef .tc main_while0b_v59) (ix2 b j)
    = BitVec.ofNat 32 (firstMax fun i => V (Proc.devRef .tc main_while0b_v58) (ix3 b i j)).val := by
  after_results
  exact argmax3_at _ b j

/-- The best candidate. -/
theorem fwdMax_at (b : Fin 128) (j : Fin 17) : after fwdMax V (Proc.devRef .tc main_while0b_v60) (ix2 b j)
    = V (Proc.devRef .tc main_while0b_v58) (ix3 b (firstMax fun i => V (Proc.devRef .tc main_while0b_v58) (ix3 b i j)) j) := by
  after_results
  exact max3_at _ b j

/-- The mask of a step, for every state. -/
theorem fwdMax_mask (b : Fin 128) : after fwdMax V (Proc.devRef .tc main_while0b_v61) (ix2 b 0) = V (Proc.devRef .tc main_while0b_v50) (ix1 b) := by
  after_results
  pointwise

/-- Where the mask is set the new scores are the best candidates. -/
theorem fwdSel_at (b : Fin 128) (j : Fin 17) (h : V (Proc.devRef .tc main_while0b_v61) (ix2 b 0) = (1#1 : BitVec 1)) :
    after fwdSel V (Proc.devRef .tc main_while0b_v62) (ix2 b j) = V (Proc.devRef .tc main_while0b_v60) (ix2 b j) := by
  have h' : broadcastInDim S128x17 ![0, 1] bcast_S128x1_S128x17_0_1 (V (Proc.devRef .tc main_while0b_v61)) (ix2 b j) = (1#1 : BitVec 1) := by
    rw [← h]
    pointwise
  after_results
  show Scalar.select (broadcastInDim S128x17 ![0, 1] bcast_S128x1_S128x17_0_1 (V (Proc.devRef .tc main_while0b_v61)) (ix2 b j)) _ _ = _
  rw [h']
  rfl

/-- The step's back-pointers go in the history's row at the counter; the other rows stay. -/
theorem fwdStore_at (k : Fin 1023) (hk : V (Proc.devRef .tc main_v15_3) = fun _ => BitVec.ofNat 32 k.val) (s : Fin 1023) (b : Fin 128) (j : Fin 17) :
    after fwdStore V (Proc.devRef .tc main_while0b_v63) (ix3 s b j)
      = if s = k then V (Proc.devRef .tc main_while0b_v59) (ix2 b j) else V (Proc.devRef .tc main_v15_5) (ix3 s b j) := by
  after_results
  refine writeRow3 (V (Proc.devRef .tc main_v15_5)) (V (Proc.devRef .tc main_while0b_v59)) _ updateFits_S1023x128x17_S1x128x17 k ?_ rfl rfl s b j
  show BitVec.toInt (V (Proc.devRef .tc main_v15_3) _) = _
  rw [hk]
  exact toInt_ofNat_of_lt (by omega)

/-- The scores and the history are handed to the next step. -/
theorem fwdNext_scores : after fwdNext V (Proc.devRef .tc main_v15_4) = V (Proc.devRef .tc main_while0b_v62) := by
  after_results
  rfl
theorem fwdNext_history : after fwdNext V (Proc.devRef .tc main_v15_5) = V (Proc.devRef .tc main_while0b_v63) := by
  after_results
  rfl

/-- What a step makes of the transition table `T`, the scores `s` and the emissions `e` at a sequence and a state: the score by the state
    come from. -/
abbrev cand (T : FVec Ideal S17x17 .f32) (s : FVec Ideal S128x17 .f32) (e : FVec Ideal S1023x128x17 .f32) (k : Fin 1023) (b : Fin 128) (j : Fin 17)
    (i : Fin 17) : EReal := T (ix2 i j) + s (ix2 b i) + e (ix3 k b j)

variable (T : FVec Ideal S17x17 .f32) (s : FVec Ideal S128x17 .f32) (e : FVec Ideal S1023x128x17 .f32) (k : Fin 1023)

/-- The candidates in a step, after its first three lists. -/
theorem cand_at (hT : V (Proc.devRef .tc main_v15_2) = T) (hs : V (Proc.devRef .tc main_v15_4) = s) (he : V (Proc.devRef .tc main_v15_0) = e)
    (hk : V (Proc.devRef .tc main_v15_3) = fun _ => BitVec.ofNat 32 k.val) (b : Fin 128) (i j : Fin 17) :
    after fwdCand (after fwdMask (after fwdEm (after fwdTest V))) (Proc.devRef .tc main_while0b_v58) (ix3 b i j) = cand T s e k b j i := by
  have hk' : after fwdTest V (Proc.devRef .tc main_v15_3) = fun _ => BitVec.ofNat 32 k.val := by
    rw [after_of_writes_sub _ _ fwdTest_writes (by decide +kernel), hk]
  rw [fwdCand_at _ T s _
    (by rw [after_of_writes_sub _ _ fwdMask_writes (by decide +kernel), after_of_writes_sub _ _ fwdEm_writes (by decide +kernel),
      after_of_writes_sub _ _ fwdTest_writes (by decide +kernel), hT])
    (by rw [after_of_writes_sub _ _ fwdMask_writes (by decide +kernel), after_of_writes_sub _ _ fwdEm_writes (by decide +kernel),
      after_of_writes_sub _ _ fwdTest_writes (by decide +kernel), hs])
    (after_of_writes_sub _ _ fwdMask_writes (by decide +kernel)),
    fwdEm_at _ k hk', after_of_writes_sub _ _ fwdTest_writes (by decide +kernel), he]

/-- A step's scores, where every sequence is valid. -/
theorem step_scores (hT : V (Proc.devRef .tc main_v15_2) = T) (hs : V (Proc.devRef .tc main_v15_4) = s) (he : V (Proc.devRef .tc main_v15_0) = e)
    (hk : V (Proc.devRef .tc main_v15_3) = fun _ => BitVec.ofNat 32 k.val)
    (hm : ∀ b : Fin 128, V (Proc.devRef .tc main_v15_1) (ix2 k b) = (1#1 : BitVec 1)) (b : Fin 128) (j : Fin 17) :
    afterL fwdI (after fwdTest V) (Proc.devRef .tc main_v15_4) (ix2 b j) = cand T s e k b j (firstMax (cand T s e k b j)) := by
  simp only [afterL_cons, afterL_nil]
  have hk' : after fwdEm (after fwdTest V) (Proc.devRef .tc main_v15_3) = fun _ => BitVec.ofNat 32 k.val := by
    rw [after_of_writes_sub _ _ fwdEm_writes (by decide +kernel), after_of_writes_sub _ _ fwdTest_writes (by decide +kernel), hk]
  rw [fwdNext_scores, after_of_writes_sub _ _ fwdStore_writes (by decide +kernel), fwdSel_at _ b j, fwdMax_at,
    after_of_writes_sub _ _ fwdArg_writes (by decide +kernel), cand_at V T s e k hT hs he hk]
  · simp only [cand_at V T s e k hT hs he hk]
  · rw [fwdMax_mask, after_of_writes_sub _ _ fwdArg_writes (by decide +kernel), after_of_writes_sub _ _ fwdCand_writes (by decide +kernel),
      fwdMask_at _ k hk', after_of_writes_sub _ _ fwdEm_writes (by decide +kernel), after_of_writes_sub _ _ fwdTest_writes (by decide +kernel), hm]

/-- A step's history: its own row holds the first best states to come from. -/
theorem step_history (hT : V (Proc.devRef .tc main_v15_2) = T) (hs : V (Proc.devRef .tc main_v15_4) = s) (he : V (Proc.devRef .tc main_v15_0) = e)
    (hk : V (Proc.devRef .tc main_v15_3) = fun _ => BitVec.ofNat 32 k.val) (r : Fin 1023) (b : Fin 128) (j : Fin 17) :
    afterL fwdI (after fwdTest V) (Proc.devRef .tc main_v15_5) (ix3 r b j)
      = if r = k then BitVec.ofNat 32 (firstMax (cand T s e k b j)).val else V (Proc.devRef .tc main_v15_5) (ix3 r b j) := by
  simp only [afterL_cons, afterL_nil]
  rw [fwdNext_history, fwdStore_at _ k]
  · by_cases h : r = k
    · rw [if_pos h, if_pos h, after_of_writes_sub _ _ fwdSel_writes (by decide +kernel), after_of_writes_sub _ _ fwdMax_writes (by decide +kernel),
        fwdArg_at]
      simp only [cand_at V T s e k hT hs he hk]
    · rw [if_neg h, if_neg h, after_of_writes_sub _ _ fwdSel_writes (by decide +kernel), after_of_writes_sub _ _ fwdMax_writes (by decide +kernel),
        after_of_writes_sub _ _ fwdArg_writes (by decide +kernel), after_of_writes_sub _ _ fwdCand_writes (by decide +kernel),
        after_of_writes_sub _ _ fwdMask_writes (by decide +kernel), after_of_writes_sub _ _ fwdEm_writes (by decide +kernel),
        after_of_writes_sub _ _ fwdTest_writes (by decide +kernel)]
  · rw [after_of_writes_sub _ _ fwdSel_writes (by decide +kernel), after_of_writes_sub _ _ fwdMax_writes (by decide +kernel),
      after_of_writes_sub _ _ fwdArg_writes (by decide +kernel), after_of_writes_sub _ _ fwdCand_writes (by decide +kernel),
      after_of_writes_sub _ _ fwdMask_writes (by decide +kernel), after_of_writes_sub _ _ fwdEm_writes (by decide +kernel),
      after_of_writes_sub _ _ fwdTest_writes (by decide +kernel), hk]

end Step

end Cert.Ref
-- ==== Proof.Ref.Scores.lean ====
/-
  The reference's forward loop over the extended reals: with every position valid, before the loop's `k`-th test the scores are Viterbi
  decoding's at time `k`, and the first `k` rows of the history are its back-pointers.
-/
module

public import proofs.«01_k».proof.Proof.Ref.Forward

@[expose] public section

set_option maxRecDepth 16384

noncomputable section

namespace Cert.Ref

open Cert.ReferenceIdeal Cert.ReferenceIdeal.Gen
open Idealize.ShloMosaic Idealize.ShloMosaic.TcCoe Idealize.ShloMosaic.Pointwise Idealize.ShloMosaic.StableHlo
open Cert.Viterbi (firstMax chan emit score back start)

variable (m : (ℓ : Loc nD τ sig) → Buf (Elt Ideal) ℓ) (c : Dev nD)

/-- The emissions of one sequence, by channel and time. -/
abbrev seqEm (b : Fin 128) : Fin 4 → Fin 1024 → EReal := fun k t => m ((c.tc : Thread nD τ).loc main_arg0) (ix3 b k t)

/-! ## Where the loop is entered -/

/-- The table of the states' channels. -/
theorem channel_at (j : Fin 17) : lit4 j = BitVec.ofNat 32 (chan j.val).val := by
  fin_cases j <;> rfl

/-- A table of seventeen entries is read at its own position. -/
theorem pos1 (j : Fin 17) : S17.rowMajor (ix1 j) = j := Fin.ext (Shape.rowMajor_val_one _)

/-- The emissions by time, sequence and state, from those by sequence, channel and time. -/
abbrev byState (x : FVec Ideal S128x4x1024 .f32) : FVec Ideal S1024x128x17 .f32 :=
  Host.gather gather_S1024x128x4_S17x1_S1024x128x17_01_2_n_n_2_1_10241281
    (transpose S1024x128x4 [2, 0, 1] x transposes_S128x4x1024_S1024x128x4_2_0_1)
    (broadcastInDim S17x1 ![0] bcast_S17_S17x1_0 (select (constantI S17 1 0#1)
      (addi (fun i => lit4 (S17.rowMajor i)) (broadcastInDim S17 ![] bcast_S_S17 (constantI S_ 32 4#32))) (fun i => lit4 (S17.rowMajor i))))

/-- Each state has its channel's emission. -/
theorem byState_at (x : FVec Ideal S128x4x1024 .f32) (t : Fin 1024) (b : Fin 128) (j : Fin 17) :
    byState x (ix3 t b j) = x (ix3 b (chan j.val) t) := by
  unfold byState
  rw [gatherChannel _ _ t b j (chan j.val)]
  · pointwise
  · rw [← channel_at]
    pointwise
    exact congrArg lit4 (pos1 j)

/-- The emissions a step takes, row `r` those of time `r + 1`. -/
theorem fwdIn_em (r : Fin 1023) (b : Fin 128) (j : Fin 17) :
    fwdIn m c (Proc.devRef .tc main_v15_0) (ix3 r b j) = emit (seqEm m c b) (r.val + 1) j := by
  have h : fwdIn m c (Proc.devRef .tc main_v15_0)
      = extractStridedSlice S1023x128x17 ![1, 0, 0] (byState (m ((c.tc : Thread nD τ).loc main_arg0))) slices_S1024x128x17_S1023x128x17_1_0_0 := by
    simp only [fwdIn, afterL_cons, afterL_nil]
    after_reads_simp
    rfl
  have ht : (⟨1 + r.val, by omega⟩ : Fin 1024) = ⟨min (r.val + 1) 1023, by omega⟩ := Fin.ext (by show 1 + r.val = min (r.val + 1) 1023; omega)
  rw [h]
  generalize hx : byState (m ((c.tc : Thread nD τ).loc main_arg0)) = x
  pointwise
  rw [← hx, byState_at, ht]
  rfl

/-- The mask a step takes. -/
theorem fwdIn_mask (r : Fin 1023) (b : Fin 128) :
    fwdIn m c (Proc.devRef .tc main_v15_1) (ix2 r b) = m ((c.tc : Thread nD τ).loc main_arg1) (ix2 b ⟨1 + r.val, by omega⟩) := by
  have h : fwdIn m c (Proc.devRef .tc main_v15_1) = extractStridedSlice S1023x128 ![1, 0]
      (transpose S1024x128 [1, 0] (m ((c.tc : Thread nD τ).loc main_arg1)) transposes_S128x1024_S1024x128_1_0) slices_S1024x128_S1023x128_1_0 := by
    simp only [fwdIn, afterL_cons, afterL_nil]
    after_reads_simp
    rfl
  rw [h]
  pointwise

/-- The transition table. -/
theorem fwdIn_trans (i j : Fin 17) : fwdIn m c (Proc.devRef .tc main_v15_2) (ix2 i j) = Viterbi.trans i j := by
  have h : fwdIn m c (Proc.devRef .tc main_v15_2) = fun i => (FloatOps.ofBits .f32 (lit1 (S17x17.rowMajor i)) : Ideal .f32) := by
    simp only [fwdIn, afterL_cons, afterL_nil]
    after_reads_simp
    rfl
  rw [h]
  exact congrArg (fun n => (FloatOps.ofBits .f32 (lit1 n) : Ideal .f32)) (Fin.ext (Shape.rowMajor_val_two _))

/-- The first scores. -/
theorem fwdIn_scores (b : Fin 128) (j : Fin 17) :
    fwdIn m c (Proc.devRef .tc main_v15_4) (ix2 b j) = score (emit (seqEm m c b)) Viterbi.trans start 0 j := by
  have h : fwdIn m c (Proc.devRef .tc main_v15_4) = addf
      (broadcastInDim S128x17 ![0, 1] bcast_S1x17_S128x17_0_1 (broadcastInDim S1x17 ![1] bcast_S17_S1x17_1
        (fun i => (FloatOps.ofBits .f32 (lit2 (S17.rowMajor i)) : Ideal .f32))))
      (shapeCast S128x17 (extractStridedSlice S1x128x17 ![0, 0, 0] (byState (m ((c.tc : Thread nD τ).loc main_arg0)))
        slices_S1024x128x17_S1x128x17_0_0_0) shapeCasts_S1x128x17_S128x17) := by
    simp only [fwdIn, afterL_cons, afterL_nil]
    after_reads_simp
    rfl
  have hs : (fun i => (FloatOps.ofBits .f32 (lit2 (S17.rowMajor i)) : Ideal .f32)) (ix1 j) = start j :=
    congrArg (fun n => (FloatOps.ofBits .f32 (lit2 n) : Ideal .f32)) (pos1 j)
  rw [h]
  generalize (fun i => (FloatOps.ofBits .f32 (lit2 (S17.rowMajor i)) : Ideal .f32)) = w at hs
  generalize hx : byState (m ((c.tc : Thread nD τ).loc main_arg0)) = x
  pointwise
  rw [← hx, byState_at, hs]
  rfl

/-! ## Along the loop -/

/-- A buffer that no step writes stays. -/
theorem fwdAt_keep (b : Ref sig .tc) (h : b ∉ fwdTest_W ++ fwdEm_W ++ fwdMask_W ++ fwdCand_W ++ fwdArg_W ++ fwdMax_W ++ fwdSel_W ++ fwdStore_W ++ fwdNext_W) :
    ∀ k, fwdAt m k c (Proc.devRef .tc b) = fwdIn m c (Proc.devRef .tc b)
  | 0 => by rw [fwdAt, atTrip_zero]
  | k + 1 => by
    have hk := fwdAt_keep b h k
    simp only [List.mem_append, not_or] at h
    obtain ⟨⟨⟨⟨⟨⟨⟨⟨h0, h1⟩, h2⟩, h3⟩, h4⟩, h5⟩, h6⟩, h7⟩, h8⟩ := h
    rw [fwdAt, atTrip_succ]
    simp only [afterL_cons, afterL_nil]
    rw [after_of_writes_sub _ _ fwdNext_writes h8, after_of_writes_sub _ _ fwdStore_writes h7, after_of_writes_sub _ _ fwdSel_writes h6,
      after_of_writes_sub _ _ fwdMax_writes h5, after_of_writes_sub _ _ fwdArg_writes h4, after_of_writes_sub _ _ fwdCand_writes h3,
      after_of_writes_sub _ _ fwdMask_writes h2, after_of_writes_sub _ _ fwdEm_writes h1, after_of_writes_sub _ _ fwdTest_writes h0]
    exact hk

/-- A counter from zero by ones is its number. -/
theorem counter_eq (k : ℕ) : Scf.iv 0#32 1#32 k = BitVec.ofNat 32 k := by
  unfold Scf.iv
  simp

/-- Before the `k`-th test the scores are those of time `k`, and the history's first `k` rows are the back-pointers. -/
theorem fwdAt_spec (hm : ∀ (b : Fin 128) (t : Fin 1024), m ((c.tc : Thread nD τ).loc main_arg1) (ix2 b t) = (1#1 : BitVec 1)) :
    ∀ k, k ≤ 1023 → (∀ (b : Fin 128) (j : Fin 17), fwdAt m k c (Proc.devRef .tc main_v15_4) (ix2 b j) = score (emit (seqEm m c b)) Viterbi.trans start k j)
      ∧ ∀ r : Fin 1023, r.val < k → ∀ (b : Fin 128) (j : Fin 17), fwdAt m k c (Proc.devRef .tc main_v15_5) (ix3 r b j)
        = BitVec.ofNat 32 (back (emit (seqEm m c b)) Viterbi.trans start r.val j).val
  | 0, _ => ⟨fun b j => by rw [fwdAt, atTrip_zero, fwdIn_scores], fun r hr => absurd hr (Nat.not_lt_zero _)⟩
  | k + 1, hk => by
    obtain ⟨ihs, ihh⟩ := fwdAt_spec hm k (by omega)
    have hctr : fwdAt m k c (Proc.devRef .tc main_v15_3) = fun _ => BitVec.ofNat 32 k := by rw [fwdAt_counter, counter_eq]
    have hmask : ∀ b : Fin 128, fwdAt m k c (Proc.devRef .tc main_v15_1) (ix2 (⟨k, by omega⟩ : Fin 1023) b) = (1#1 : BitVec 1) := fun b => by
      rw [fwdAt_keep m c main_v15_1 (by decide +kernel), fwdIn_mask, hm]
    have hc : ∀ (b : Fin 128) (j : Fin 17), cand (fwdAt m k c (Proc.devRef .tc main_v15_2)) (fwdAt m k c (Proc.devRef .tc main_v15_4))
        (fwdAt m k c (Proc.devRef .tc main_v15_0)) ⟨k, by omega⟩ b j
          = fun i => Viterbi.trans i j + score (emit (seqEm m c b)) Viterbi.trans start k i + emit (seqEm m c b) (k + 1) j := fun b j => by
      funext i
      unfold cand
      rw [ihs, fwdAt_keep m c main_v15_2 (by decide +kernel), fwdIn_trans, fwdAt_keep m c main_v15_0 (by decide +kernel), fwdIn_em]
    rw [fwdAt, atTrip_succ]
    refine ⟨fun b j => ?_, fun r hr b j => ?_⟩
    · refine (step_scores (fwdAt m k c) _ _ _ ⟨k, by omega⟩ rfl rfl rfl hctr hmask b j).trans ?_
      rw [hc]
      rfl
    · refine (step_history (fwdAt m k c) _ _ _ ⟨k, by omega⟩ rfl rfl rfl hctr r b j).trans ?_
      by_cases h : r = ⟨k, by omega⟩
      · rw [if_pos h, hc, h]
        rfl
      · rw [if_neg h]
        exact ihh r (by have : r.val ≠ k := fun e => h (Fin.ext e); omega) b j

end Cert.Ref
-- ==== Proof.Ref.Between.lean ====
/-
  Between the reference's two loops, over the extended reals and with every position valid: the history's last row becomes the best last
  state of each sequence, its other rows stay the back-pointers.
-/
module

public import proofs.«01_k».proof.Proof.Ref.Scores

@[expose] public section

set_option maxRecDepth 16384

noncomputable section

namespace Cert.Ref

open Cert.ReferenceIdeal Cert.ReferenceIdeal.Gen
open Idealize.ShloMosaic Idealize.ShloMosaic.TcCoe Idealize.ShloMosaic.Pointwise Idealize.ShloMosaic.StableHlo
open Cert.Viterbi (firstMax chan emit score back tag start stop)

section Lists

variable (V : Valuation τ sig (Elt Ideal))

/-- The history's rows but the last one are those of the forward loop. -/
theorem midEnd_history (r : Fin 1023) (b : Fin 128) (j : Fin 17) :
    after midEnd V (Proc.devRef .tc main_v17) (ix3 ⟨r.val, by omega⟩ b j) = V (Proc.devRef .tc main_v15_5) (ix3 r b j) := by
  after_results
  pointwise

/-- The final scores: the end's score added. -/
theorem midEnd_scores (s : FVec Ideal S128x17 .f32) (e : FVec Ideal S17 .f32) (hs : V (Proc.devRef .tc main_v15_4) = s)
    (he : V (Proc.devRef .tc main_cst_1) = e) (b : Fin 128) (i : Fin 17) :
    after midEnd V (Proc.devRef .tc main_v20) (ix2 b i) = s (ix2 b i) + e (ix1 i) := by
  after_results
  rw [hs, he]
  pointwise

/-- The first best last state. -/
theorem midArg_at (b : Fin 128) : after midArg V (Proc.devRef .tc main_v21) (ix1 b)
    = BitVec.ofNat 32 (firstMax fun i => V (Proc.devRef .tc main_v20) (ix2 b i)).val := by
  after_results
  exact argmax2_at _ b

/-- Ones added up are their number. -/
theorem count_ones {ι : Type} (s : Finset ι) : s.fold IntOp.addi (0#32) (fun _ => 1#32) = BitVec.ofNat 32 s.card := by
  classical
  induction s using Finset.induction_on with
  | empty => rfl
  | insert a s ha ih =>
    rw [Finset.fold_insert ha, ih, Finset.card_insert_of_notMem ha]
    show 1#32 + BitVec.ofNat 32 s.card = _
    rw [BitVec.add_comm, BitVec.ofNat_add]

/-- The valid positions of a sequence whose mask is all ones. -/
theorem midLen_count (b : Fin 128) (h : ∀ t : Fin 1024, V (Proc.devRef .tc main_v0) (ix2 t b) = (1#1 : BitVec 1)) :
    after midLen V (Proc.devRef .tc main_v23) (ix1 b) = (1024#32 : BitVec 32) := by
  after_results
  generalize V (Proc.devRef .tc main_v0) = x at h
  show Host.reduce IntOp.addi (extui 32 x natLt_1_32) (constantI S_ 32 0#32) reducesTo_S1024x128_S128_d0 h_S_ (ix1 b) = _
  have hS : ∀ S : Finset S1024x128.Idx, (∀ i, i ∈ S ↔ reducesTo_S1024x128_S128_d0.drop i = ix1 b) →
      S.fold IntOp.addi (0#32) (extui 32 x natLt_1_32) = 1024#32 := fun S hS => by
    have hi : S = Finset.univ.image fun t : Fin 1024 => (ix2 t b : S1024x128.Idx) := by
      ext i
      simp only [hS, Finset.mem_univ, true_and, Finset.mem_image]
      constructor
      · intro hi
        idx_vars i
        obtain rfl : i1 = b := congrFun hi 0
        exact ⟨i0, rfl⟩
      · rintro ⟨t, rfl⟩
        funext a
        fin_cases a
        rfl
    subst hi
    rw [Finset.fold_congr (g := fun _ => (1#32 : BitVec 32)), count_ones, Finset.card_image_of_injective]
    · rfl
    · exact fun t u htu => congrFun htu 0
    · intro i hi
      obtain ⟨t, -, rfl⟩ := Finset.mem_image.mp hi
      show BitVec.setWidth 32 (x (ix2 t b)) = _
      rw [h]
      rfl
  rw [Host.reduce_eq_fold]
  exact hS _ fun i => by simp

/-- It is more than none. -/
theorem midLen_positive (b : Fin 128) (h : ∀ t : Fin 1024, V (Proc.devRef .tc main_v0) (ix2 t b) = (1#1 : BitVec 1)) :
    after midLen V (Proc.devRef .tc main_v25) (ix1 b) = (1#1 : BitVec 1) := by
  have hc := midLen_count V b h
  revert hc
  after_results
  intro hc
  show IntOp.cmpi .sgt _ (0#32) = _
  rw [hc]
  rfl

/-- A sequence with a valid position is decoded to as many as it has. -/
theorem midWhere_at (b : Fin 128) (h : V (Proc.devRef .tc main_v25) (ix1 b) = (1#1 : BitVec 1)) :
    after midWhere V (Proc.devRef .tc main_v26) (ix1 b) = V (Proc.devRef .tc main_v23) (ix1 b) := by
  after_results
  show Scalar.select (V (Proc.devRef .tc main_v25) (ix1 b)) _ _ = _
  rw [h]
  rfl

/-- Where a sequence of all positions ends: at the last one. -/
theorem midAt_end (r : Fin 1024) (b : Fin 128) (h : V (Proc.devRef .tc main_v26) (ix1 b) = (1024#32 : BitVec 32)) :
    after midAt V (Proc.devRef .tc main_v35) (ix3 r b 0) = BitVec.ofBool (decide (r.val = 1023)) := by
  after_results
  generalize V (Proc.devRef .tc main_v26) = x at h
  pointwise
  rw [h]
  show BitVec.ofBool (BitVec.ofNat 32 r.val == 1023#32) = _
  refine congrArg BitVec.ofBool (Bool.eq_iff_iff.mpr ?_)
  rw [beq_iff_eq, decide_eq_true_iff]
  constructor
  · intro e
    have := congrArg BitVec.toNat e
    rw [BitVec.toNat_ofNat, Nat.mod_eq_of_lt (by omega)] at this
    exact this
  · intro e
    rw [e]

/-- The best last state, for every position. -/
theorem midAt_state (b : Fin 128) : after midAt V (Proc.devRef .tc main_v36) (ix3 0 b 0) = V (Proc.devRef .tc main_v21) (ix1 b) := by
  after_results
  pointwise

/-- A select on a decided condition. -/
theorem select_true {α : Type} (a b : α) : Scalar.select (BitVec.ofBool true) a b = a := rfl
theorem select_false {α : Type} (a b : α) : Scalar.select (BitVec.ofBool false) a b = b := rfl

/-- The history with the best last state where a sequence ends. -/
theorem midHist_at (r : Fin 1024) (b : Fin 128) (j : Fin 17) :
    after midHist V (Proc.devRef .tc main_v37) (ix3 r b j) = Scalar.select (V (Proc.devRef .tc main_v35) (ix3 r b 0))
      (V (Proc.devRef .tc main_v36) (ix3 0 b 0)) (V (Proc.devRef .tc main_v17) (ix3 r b j)) := by
  have h1 : broadcastInDim S1024x128x17 ![0, 1, 2] bcast_S1024x128x1_S1024x128x17_0_1_2 (V (Proc.devRef .tc main_v35)) (ix3 r b j)
      = V (Proc.devRef .tc main_v35) (ix3 r b 0) := by pointwise
  have h2 : broadcastInDim S1024x128x17 ![0, 1, 2] bcast_S1x128x1_S1024x128x17_0_1_2 (V (Proc.devRef .tc main_v36)) (ix3 r b j)
      = V (Proc.devRef .tc main_v36) (ix3 0 b 0) := by pointwise
  rw [← h1, ← h2]
  after_results
  rfl

/-- The backward loop begins at state zero. -/
theorem midZeros_at (b : Fin 128) : after midZeros V (Proc.devRef .tc main_v38) (ix1 b) = (0#32 : BitVec 32) := by
  after_results
  rfl

/-- The backward loop's history and first state. -/
theorem midEnter_history : after midEnter V (Proc.devRef .tc main_v40_0) = V (Proc.devRef .tc main_v37) := by
  after_results
  rfl
theorem midEnter_state : after midEnter V (Proc.devRef .tc main_v40_2) = V (Proc.devRef .tc main_v38) := by
  after_results
  rfl

end Lists

variable (m : (ℓ : Loc nD τ sig) → Buf (Elt Ideal) ℓ) (c : Dev nD)

/-- A buffer that no list between the loops writes stays. -/
theorem bwdIn_keep (b : Ref sig .tc)
    (h : b ∉ fwdTest_W ++ midEnd_W ++ midArg_W ++ midLen_W ++ midWhere_W ++ midAt_W ++ midHist_W ++ midZeros_W ++ midEnter_W) :
    bwdIn m c (Proc.devRef .tc b) = fwdAt m 1023 c (Proc.devRef .tc b) := by
  simp only [List.mem_append, not_or] at h
  obtain ⟨⟨⟨⟨⟨⟨⟨⟨h0, h1⟩, h2⟩, h3⟩, h4⟩, h5⟩, h6⟩, h7⟩, h8⟩ := h
  rw [bwdIn]
  simp only [afterL_cons, afterL_nil]
  rw [after_of_writes_sub _ _ midEnter_writes h8, after_of_writes_sub _ _ midZeros_writes h7, after_of_writes_sub _ _ midHist_writes h6,
    after_of_writes_sub _ _ midAt_writes h5, after_of_writes_sub _ _ midWhere_writes h4, after_of_writes_sub _ _ midLen_writes h3,
    after_of_writes_sub _ _ midArg_writes h2, after_of_writes_sub _ _ midEnd_writes h1, after_of_writes_sub _ _ fwdTest_writes h0]

/-- The mask, by time and sequence. -/
theorem fwdIn_valid (t : Fin 1024) (b : Fin 128) :
    fwdIn m c (Proc.devRef .tc main_v0) (ix2 t b) = m ((c.tc : Thread nD τ).loc main_arg1) (ix2 b t) := by
  have h : fwdIn m c (Proc.devRef .tc main_v0)
      = transpose S1024x128 [1, 0] (m ((c.tc : Thread nD τ).loc main_arg1)) transposes_S128x1024_S1024x128_1_0 := by
    simp only [fwdIn, afterL_cons, afterL_nil]
    after_reads_simp
  rw [h]
  pointwise

/-- The end's scores. -/
theorem fwdIn_stop (j : Fin 17) : fwdIn m c (Proc.devRef .tc main_cst_1) (ix1 j) = stop j := by
  have h : fwdIn m c (Proc.devRef .tc main_cst_1) = fun i => (FloatOps.ofBits .f32 (lit3 (S17.rowMajor i)) : Ideal .f32) := by
    simp only [fwdIn, afterL_cons, afterL_nil]
    after_reads_simp
    rfl
  rw [h]
  exact congrArg (fun n => (FloatOps.ofBits .f32 (lit3 n) : Ideal .f32)) (pos1 j)

/-- The labels of the states. -/
theorem fwdIn_labels (j : Fin 17) : fwdIn m c (Proc.devRef .tc main_c) (ix1 j) = Viterbi.label j := by
  have h : fwdIn m c (Proc.devRef .tc main_c) = fun i => lit0 (S17.rowMajor i) := by
    simp only [fwdIn, afterL_cons, afterL_nil]
    after_reads_simp
    rfl
  rw [h]
  show lit0 (S17.rowMajor (ix1 j)) = _
  rw [pos1]
  fin_cases j <;> rfl

/-- The backward loop begins at state zero. -/
theorem bwdIn_state (b : Fin 128) : bwdIn m c (Proc.devRef .tc main_v40_2) (ix1 b) = (0#32 : BitVec 32) := by
  rw [bwdIn]
  simp only [afterL_cons, afterL_nil]
  rw [midEnter_state, midZeros_at]

variable (hm : ∀ (b : Fin 128) (t : Fin 1024), m ((c.tc : Thread nD τ).loc main_arg1) (ix2 b t) = (1#1 : BitVec 1))
include hm

/-- The backward loop's history at a row: the best last state in the last row, in another the state before. -/
theorem bwdIn_history (r : Fin 1024) (b : Fin 128) (j : Fin 17) : bwdIn m c (Proc.devRef .tc main_v40_0) (ix3 r b j)
    = BitVec.ofNat 32 (if r.val = 1023 then tag (emit (seqEm m c b)) Viterbi.trans start stop 0
        else back (emit (seqEm m c b)) Viterbi.trans start r.val j).val := by
  obtain ⟨hs, hh⟩ := fwdAt_spec m c hm 1023 le_rfl
  have hv : ∀ t : Fin 1024, fwdAt m 1023 c (Proc.devRef .tc main_v0) (ix2 t b) = (1#1 : BitVec 1) := fun t => by
    rw [fwdAt_keep m c main_v0 (by decide +kernel), fwdIn_valid, hm]
  have hv' : ∀ t : Fin 1024, after midArg (after midEnd (after fwdTest (fwdAt m 1023 c))) (Proc.devRef .tc main_v0) (ix2 t b) = (1#1 : BitVec 1) := fun t => by
    rw [after_of_writes_sub _ _ midArg_writes (by decide +kernel), after_of_writes_sub _ _ midEnd_writes (by decide +kernel),
      after_of_writes_sub _ _ fwdTest_writes (by decide +kernel), hv]
  rw [bwdIn]
  simp only [afterL_cons, afterL_nil]
  rw [midEnter_history, after_of_writes_sub _ _ midZeros_writes (by decide +kernel), midHist_at,
    midAt_end _ r b (by rw [midWhere_at _ b (midLen_positive _ b hv'), midLen_count _ b hv'])]
  by_cases hr : r.val = 1023
  · rw [if_pos hr, decide_eq_true hr, select_true, midAt_state,
      after_of_writes_sub _ _ midWhere_writes (by decide +kernel), after_of_writes_sub _ _ midLen_writes (by decide +kernel), midArg_at]
    refine congrArg (fun f => BitVec.ofNat 32 (firstMax f).val) (funext fun i => ?_)
    rw [midEnd_scores _ _ _ rfl rfl, after_of_writes_sub _ _ fwdTest_writes (by decide +kernel), after_of_writes_sub _ _ fwdTest_writes (by decide +kernel),
      hs, fwdAt_keep m c main_cst_1 (by decide +kernel), fwdIn_stop]
  · have hr' : r.val < 1023 := by omega
    rw [if_neg hr, decide_eq_false hr, select_false, after_of_writes_sub _ _ midAt_writes (by decide +kernel),
      after_of_writes_sub _ _ midWhere_writes (by decide +kernel), after_of_writes_sub _ _ midLen_writes (by decide +kernel),
      after_of_writes_sub _ _ midArg_writes (by decide +kernel)]
    refine (midEnd_history _ ⟨r.val, hr'⟩ b j).trans ?_
    rw [after_of_writes_sub _ _ fwdTest_writes (by decide +kernel)]
    exact hh ⟨r.val, hr'⟩ hr' b j

end Cert.Ref
-- ==== Proof.Ref.Backward.lean ====
/-
  The reference's backward loop over the extended reals, with every position valid: it follows the back-pointers from the best last
  state, and the labels of what it finds are the answer.
-/
module

public import proofs.«01_k».proof.Proof.Ref.Between

@[expose] public section

set_option maxRecDepth 16384

noncomputable section

namespace Cert.Ref

open Cert.ReferenceIdeal Cert.ReferenceIdeal.Gen
open Idealize.ShloMosaic Idealize.ShloMosaic.TcCoe Idealize.ShloMosaic.Pointwise Idealize.ShloMosaic.StableHlo
open Cert.Viterbi (emit back tag label answer start stop)

/-- An index that is not negative needs no wrapping. -/
theorem wrap_state (j : Fin 17) (w : BitVec 32) : Scalar.select (IntOp.cmpi .slt (BitVec.ofNat 32 j.val) (0#32)) w (BitVec.ofNat 32 j.val)
    = BitVec.ofNat 32 j.val := by
  rw [show IntOp.cmpi .slt (BitVec.ofNat 32 j.val) (0#32) = BitVec.ofBool false by fin_cases j <;> rfl]
  rfl
theorem wrap_seq (b : Fin 128) (w : BitVec 32) : Scalar.select (IntOp.cmpi .slt (BitVec.ofNat 32 b.val) (0#32)) w (BitVec.ofNat 32 b.val)
    = BitVec.ofNat 32 b.val := by
  rw [show IntOp.cmpi .slt (BitVec.ofNat 32 b.val) (0#32) = BitVec.ofBool false by
    show BitVec.ofBool (decide ((BitVec.ofNat 32 b.val).toInt < 0)) = _
    rw [toInt_ofNat_of_lt (by omega), decide_eq_false (by omega)]]
  rfl

section Step

variable (V : Valuation τ sig (Elt Ideal))

/-- The position of a step: the last one first. -/
theorem bwdRow_at (k : ℕ) (hk : k < 1024) (h : V (Proc.devRef .tc main_v40_1) = fun _ => BitVec.ofNat 32 k) :
    after bwdRow V (Proc.devRef .tc main_while1b_v50) = fun _ => BitVec.ofNat 32 (1023 - k) := by
  have hn : (1024#32 - BitVec.ofNat 32 k) - 1#32 = BitVec.ofNat 32 (1023 - k) := by
    apply BitVec.eq_of_toNat_eq
    simp only [BitVec.toNat_sub, BitVec.toNat_ofNat]
    omega
  after_results
  rw [h]
  exact funext fun _ => hn

/-- A row of the history, at the position. -/
theorem bwdHist_at (r : Fin 1024) (hr : V (Proc.devRef .tc main_while1b_v50) = fun _ => BitVec.ofNat 32 r.val) (b : Fin 128) (j : Fin 17) :
    after bwdHist V (Proc.devRef .tc main_while1b_v51) (ix2 b j) = V (Proc.devRef .tc main_v40_0) (ix3 r b j) := by
  after_results
  refine readRow3 (V (Proc.devRef .tc main_v40_0)) _ sliceFits_S1024x128x17_S1x128x17 r ?_ rfl rfl b j
  show BitVec.toInt (V (Proc.devRef .tc main_while1b_v50) _) = _
  rw [hr]
  exact toInt_ofNat_of_lt (by omega)

/-- The entry of that row at the current state. -/
theorem bwdPick_at (b : Fin 128) (j : Fin 17) (h : V (Proc.devRef .tc main_v40_2) (ix1 b) = BitVec.ofNat 32 j.val) :
    after bwdPick V (Proc.devRef .tc main_while1b_v66) (ix1 b) = V (Proc.devRef .tc main_while1b_v51) (ix2 b j) := by
  after_results
  generalize V (Proc.devRef .tc main_v40_2) = x at h
  refine gatherState _ _ b j ?_ ?_
  · pointwise
    exact wrap_seq b _
  · pointwise
    rw [h]
    exact wrap_state j _

/-- The entry goes in the tags at the position; the other rows stay. -/
theorem bwdStore_at (r : Fin 1024) (hr : V (Proc.devRef .tc main_while1b_v50) = fun _ => BitVec.ofNat 32 r.val) (t : Fin 1024) (b : Fin 128) :
    after bwdStore V (Proc.devRef .tc main_while1b_v67) (ix2 t b)
      = if t = r then V (Proc.devRef .tc main_while1b_v66) (ix1 b) else V (Proc.devRef .tc main_v40_3) (ix2 t b) := by
  after_results
  refine writeRow2 (V (Proc.devRef .tc main_v40_3)) (V (Proc.devRef .tc main_while1b_v66)) _ updateFits_S1024x128_S1x128 r ?_ rfl t b
  show BitVec.toInt (V (Proc.devRef .tc main_while1b_v50) _) = _
  rw [hr]
  exact toInt_ofNat_of_lt (by omega)

/-- The state and the tags are handed to the next step. -/
theorem bwdNext_state : after bwdNext V (Proc.devRef .tc main_v40_2) = V (Proc.devRef .tc main_while1b_v66) := by
  after_results
  rfl
theorem bwdNext_tags : after bwdNext V (Proc.devRef .tc main_v40_3) = V (Proc.devRef .tc main_while1b_v67) := by
  after_results
  rfl

variable (k : ℕ) (hk : k < 1024) (hc : V (Proc.devRef .tc main_v40_1) = fun _ => BitVec.ofNat 32 k)
include hc

/-- The entry a step finds: the history's, at its position and the current state. -/
theorem step_entry (b : Fin 128) (j : Fin 17) (h : V (Proc.devRef .tc main_v40_2) (ix1 b) = BitVec.ofNat 32 j.val) :
    after bwdPick (after bwdHist (after bwdRow (after bwdTest V))) (Proc.devRef .tc main_while1b_v66) (ix1 b)
      = V (Proc.devRef .tc main_v40_0) (ix3 ⟨1023 - k, by omega⟩ b j) := by
  rw [bwdPick_at _ b j, bwdHist_at _ ⟨1023 - k, by omega⟩, after_of_writes_sub _ _ bwdRow_writes (by decide +kernel),
    after_of_writes_sub _ _ bwdTest_writes (by decide +kernel)]
  · exact bwdRow_at _ k hk (by rw [after_of_writes_sub _ _ bwdTest_writes (by decide +kernel), hc])
  · rw [after_of_writes_sub _ _ bwdHist_writes (by decide +kernel), after_of_writes_sub _ _ bwdRow_writes (by decide +kernel),
      after_of_writes_sub _ _ bwdTest_writes (by decide +kernel), h]

/-- A step's state. -/
theorem step_state (b : Fin 128) (j : Fin 17) (h : V (Proc.devRef .tc main_v40_2) (ix1 b) = BitVec.ofNat 32 j.val) :
    afterL bwdI (after bwdTest V) (Proc.devRef .tc main_v40_2) (ix1 b) = V (Proc.devRef .tc main_v40_0) (ix3 ⟨1023 - k, by omega⟩ b j) := by
  simp only [afterL_cons, afterL_nil]
  rw [bwdNext_state, after_of_writes_sub _ _ bwdStore_writes (by decide +kernel), step_entry V k hk hc b j h]

/-- A step's tags. -/
theorem step_tags (t : Fin 1024) (b : Fin 128) (j : Fin 17) (h : V (Proc.devRef .tc main_v40_2) (ix1 b) = BitVec.ofNat 32 j.val) :
    afterL bwdI (after bwdTest V) (Proc.devRef .tc main_v40_3) (ix2 t b) = if t = ⟨1023 - k, by omega⟩
      then V (Proc.devRef .tc main_v40_0) (ix3 ⟨1023 - k, by omega⟩ b j) else V (Proc.devRef .tc main_v40_3) (ix2 t b) := by
  simp only [afterL_cons, afterL_nil]
  rw [bwdNext_tags, bwdStore_at _ ⟨1023 - k, by omega⟩, step_entry V k hk hc b j h]
  · rw [after_of_writes_sub _ _ bwdPick_writes (by decide +kernel), after_of_writes_sub _ _ bwdHist_writes (by decide +kernel),
      after_of_writes_sub _ _ bwdRow_writes (by decide +kernel), after_of_writes_sub _ _ bwdTest_writes (by decide +kernel)]
  · rw [after_of_writes_sub _ _ bwdPick_writes (by decide +kernel), after_of_writes_sub _ _ bwdHist_writes (by decide +kernel)]
    exact bwdRow_at _ k hk (by rw [after_of_writes_sub _ _ bwdTest_writes (by decide +kernel), hc])

end Step

/-- The label of every tag. -/
theorem outOps_at (V : Valuation τ sig (Elt Ideal)) (b : Fin 128) (t : Fin 1024) (j : Fin 17)
    (h : V (Proc.devRef .tc main_v40_3) (ix2 t b) = BitVec.ofNat 32 j.val) :
    after outOps V (Proc.devRef .tc main_v48) (ix2 b t) = V (Proc.devRef .tc main_c) (ix1 j) := by
  after_results
  generalize V (Proc.devRef .tc main_v40_3) = x at h
  refine gatherLabel _ _ b t j ?_
  pointwise
  rw [h]
  exact wrap_state j _

/-! ## Along the loop -/

variable (m : (ℓ : Loc nD τ sig) → Buf (Elt Ideal) ℓ) (c : Dev nD)

/-- A buffer that no step writes stays. -/
theorem bwdAt_keep (b : Ref sig .tc) (h : b ∉ bwdTest_W ++ bwdRow_W ++ bwdHist_W ++ bwdPick_W ++ bwdStore_W ++ bwdNext_W) :
    ∀ k, bwdAt m k c (Proc.devRef .tc b) = bwdIn m c (Proc.devRef .tc b)
  | 0 => by rw [bwdAt, atTrip_zero]
  | k + 1 => by
    have hk := bwdAt_keep b h k
    simp only [List.mem_append, not_or] at h
    obtain ⟨⟨⟨⟨⟨h0, h1⟩, h2⟩, h3⟩, h4⟩, h5⟩ := h
    rw [bwdAt, atTrip_succ]
    simp only [afterL_cons, afterL_nil]
    rw [after_of_writes_sub _ _ bwdNext_writes h5, after_of_writes_sub _ _ bwdStore_writes h4, after_of_writes_sub _ _ bwdPick_writes h3,
      after_of_writes_sub _ _ bwdHist_writes h2, after_of_writes_sub _ _ bwdRow_writes h1, after_of_writes_sub _ _ bwdTest_writes h0]
    exact hk

/-- The state of sequence `b` before the `k`-th test. -/
def current (b : Fin 128) : ℕ → Fin 17
  | 0 => 0
  | k + 1 => tag (emit (seqEm m c b)) Viterbi.trans start stop k

variable (hm : ∀ (b : Fin 128) (t : Fin 1024), m ((c.tc : Thread nD τ).loc main_arg1) (ix2 b t) = (1#1 : BitVec 1))
include hm

/-- The history's entry at a step's position and the current state: the best path's state there. -/
theorem entry_eq (k : ℕ) (hk : k < 1024) (b : Fin 128) : bwdAt m k c (Proc.devRef .tc main_v40_0) (ix3 ⟨1023 - k, by omega⟩ b (current m c b k))
    = BitVec.ofNat 32 (tag (emit (seqEm m c b)) Viterbi.trans start stop k).val := by
  rw [bwdAt_keep m c main_v40_0 (by decide +kernel), bwdIn_history m c hm]
  cases k with
  | zero => rw [if_pos rfl]
  | succ k =>
    rw [if_neg (by show ¬ 1023 - (k + 1) = 1023; omega)]
    show BitVec.ofNat 32 (back _ _ _ (1023 - (k + 1)) _).val = _
    rw [show 1023 - (k + 1) = 1022 - k by omega]
    rfl

/-- Before the `k`-th test: the current state, and the tags of the last `k` times. -/
theorem bwdAt_spec : ∀ k, k ≤ 1024 → (∀ b : Fin 128, bwdAt m k c (Proc.devRef .tc main_v40_2) (ix1 b) = BitVec.ofNat 32 (current m c b k).val)
    ∧ ∀ t : Fin 1024, 1024 ≤ t.val + k → ∀ b : Fin 128, bwdAt m k c (Proc.devRef .tc main_v40_3) (ix2 t b)
      = BitVec.ofNat 32 (tag (emit (seqEm m c b)) Viterbi.trans start stop (1023 - t.val)).val
  | 0, _ => ⟨fun b => by rw [bwdAt, atTrip_zero, bwdIn_state]; rfl, fun t ht => absurd ht (by omega)⟩
  | k + 1, hk => by
    obtain ⟨ihs, iht⟩ := bwdAt_spec k (by omega)
    have hctr : bwdAt m k c (Proc.devRef .tc main_v40_1) = fun _ => BitVec.ofNat 32 k := by rw [bwdAt_counter, counter_eq]
    rw [bwdAt, atTrip_succ]
    refine ⟨fun b => ?_, fun t ht b => ?_⟩
    · exact (step_state (bwdAt m k c) k (by omega) hctr b _ (ihs b)).trans (entry_eq m c hm k (by omega) b)
    · refine (step_tags (bwdAt m k c) k (by omega) hctr t b _ (ihs b)).trans ?_
      by_cases h : t = ⟨1023 - k, by omega⟩
      · rw [if_pos h, entry_eq m c hm k (by omega) b, h]
        show _ = BitVec.ofNat 32 (tag _ _ _ _ (1023 - (1023 - k))).val
        rw [show 1023 - (1023 - k) = k by omega]
      · rw [if_neg h]
        exact iht t (by have : t.val ≠ 1023 - k := fun e => h (Fin.ext e); omega) b

/-- The reference's result: the label of every time of every sequence, as Viterbi decoding says. -/
theorem atEnd_answer (b : Fin 128) (t : Fin 1024) : atEnd m c (Proc.devRef .tc main_v48) (ix2 b t) = answer (seqEm m c b) t := by
  rw [atEnd, afterL_cons, afterL_nil, outOps_at _ b t (tag (emit (seqEm m c b)) Viterbi.trans start stop (1023 - t.val))]
  · rw [after_of_writes_sub _ _ bwdTest_writes (by decide +kernel), bwdAt_keep m c main_c (by decide +kernel),
      bwdIn_keep m c main_c (by decide +kernel), fwdAt_keep m c main_c (by decide +kernel), fwdIn_labels]
    rfl
  · rw [after_of_writes_sub _ _ bwdTest_writes (by decide +kernel)]
    exact (bwdAt_spec m c hm 1024 le_rfl).2 t (by omega) b

end Cert.Ref
-- ==== Proof.lean ====
/-
  The certificate's claim, assembled: each program's frame, that idealizing the kernel's program changes no value, and that the
  idealized kernel and the idealized reference return the same labels wherever every position is valid.
-/
module

public import proofs.«01_k».proof.Defs
public import proofs.«01_k».proof.Proof.Gen.Pre_all_valid
public import proofs.«01_k».proof.Proof.K.Run
public import proofs.«01_k».proof.Proof.KI.Run
public import proofs.«01_k».proof.Proof.KI.Answer
public import proofs.«01_k».proof.Proof.Ref.Run
public import proofs.«01_k».proof.Proof.Ref.Backward
public import Idealize.ShloMosaic.Lib.ReduceAll
public import Idealize.ShloMosaic.Adequacy
public import Idealize.ShloMosaic.Init

@[expose] public section

set_option maxRecDepth 16384

noncomputable section

namespace Cert.Proof

open Idealize.ShloMosaic Idealize.ShloMosaic.TcCoe Idealize.ShloMosaic.Pointwise Idealize.SL.Sem

/-- The precondition, read: every bit of the mask is set. -/
theorem mask_set [Cert.Pre_all_valid.Facts] (em : FVec Ideal Cert.Pre_all_valid.S128x4x1024 .f32) (mask : IVec Cert.Pre_all_valid.S128x1024 1)
    (h : Cert.Pre_all_valid.fn (F := Ideal) em mask = fun _ => 1#1) (i : Cert.Pre_all_valid.S128x1024.Idx) : mask i = 1#1 := by
  haveI : Subsingleton Cert.Pre_all_valid.S_.Idx := ⟨fun i j => funext fun d => d.elim0⟩
  have e := congrFun h (fun d => d.elim0)
  unfold Cert.Pre_all_valid.fn at e
  exact Host.reduce_andi_all mask _ _ _ _ e i

/-- From memories that agree on the arguments, with every position valid, the reference ends with the kernel's result. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (hm : ∀ (b : Fin 128) (t : Fin 1024), m' ((c.tc : Thread Cert.ReferenceIdeal.nD Cert.ReferenceIdeal.τ).loc Cert.ReferenceIdeal.main_arg1) (ix2 b t)
      = (1#1 : BitVec 1)) :
    Cert.Ref.atEnd m' c (Proc.devRef .tc Cert.ReferenceIdeal.main_v48) = Cert.KernelIdeal.Body.result m c := by
  funext y
  idx_vars y
  refine (Cert.Ref.atEnd_answer m' c hm y0 y1).trans (Eq.trans ?_ (Cert.KernelIdeal.Model.result_at m c y0 y1).symm)
  unfold Cert.Ref.seqEm
  rw [h0]

/-- The kernel and the reference return the same labels. -/
theorem algebraic : letI := Cert.KernelIdeal.Gen.facts; letI := Cert.ReferenceIdeal.Gen.facts; letI := Cert.Pre_all_valid.Gen.facts
    Cert.algebraic_KernelIdeal_ReferenceIdeal_pre_all_valid := by
  intro m g m' g' hpre hargs
  refine ⟨fun c => Cert.KernelIdeal.Body.result m c,
    (θ_run _ _ _).mono (fun r h => h.1) (Cert.KernelIdeal.Body.run m g),
    (θ_run _ _ _).mono (fun r h c => ⟨?_, ?_, ?_⟩) (Cert.Ref.run m' g')⟩
  · refine (h c Cert.ReferenceIdeal.main_v48 (by decide)).trans (results_eq m m' c (hargs c).1 fun b t => ?_)
    rw [(hargs c).2]
    exact mask_set _ _ (hpre c) (ix2 b t)
  · exact (h c Cert.ReferenceIdeal.main_arg0 (by decide)).trans (Cert.Ref.atEnd_arg0 m' c)
  · exact (h c Cert.ReferenceIdeal.main_arg1 (by decide)).trans (Cert.Ref.atEnd_arg1 m' c)

/-- Every claim of the certificate. -/
theorem claim : Cert.Claim :=
  ⟨Cert.Kernel.Gen.facts, Cert.KernelIdeal.Gen.facts, Cert.ReferenceIdeal.Gen.facts, Cert.Pre_all_valid.Gen.facts,
    fun m g _ => Cert.Kernel.Body.frame m g, fun m g _ => Cert.KernelIdeal.Body.frame m g, fun m g _ => Cert.KernelIdeal.Body.frame m g,
    fun m g _ => Cert.Ref.frame m g, fun m g _ => Cert.Ref.frame m g, trivial, algebraic⟩

end Cert.Proof

end
